-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_written [hKernelIdeal : Cert.KernelIdeal.Facts] [hReferenceIdeal : Cert.ReferenceIdeal.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![8, 512, 512]⟩ ⟨3, ![8, 1024, 512]⟩ (Layout.meshBlock [2, 2] ![[], [0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.blockN ⟨3, ![8, 512, 16]⟩ ⟨3, ![8, 1024, 16]⟩ (Layout.meshBlock [2, 2] ![[], [0], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![8, 512, 16]⟩ ⟨3, ![8, 1024, 16]⟩ (Layout.meshBlock [2, 2] ![[], [0], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨5, ![2, 4, 16, 32, 512]⟩ : Shape).Idx, (Layout.blockN ⟨5, ![2, 4, 16, 32, 512]⟩ ⟨5, ![4, 4, 32, 32, 512]⟩ (Layout.meshBlock [2, 2] ![[1], [], [0], [], []] c) ((Cert.On_written.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨5, ![2, 4, 16, 32, 512]⟩ : Shape).Idx → _) i = 1#1 → r.2.mem ((c.tc : Thread Cert.KernelIdeal.nD Cert.KernelIdeal.τ).loc Cert.KernelIdeal.main_v1) i = (Layout.blockN ⟨5, ![2, 4, 16, 32, 512]⟩ ⟨5, ![4, 4, 32, 32, 512]⟩ (Layout.meshBlock [2, 2] ![[1], [], [0], [], []] c) v0 : (⟨5, ![2, 4, 16, 32, 512]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨5, ![4, 4, 32, 32, 512]⟩ : Shape).Idx, (Cert.On_written.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v11) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_written : Cert.On_written.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_written (hKernelIdeal := hKernelIdeal) (hReferenceIdeal := hReferenceIdeal) (hOn_written := hOn_written)
-- ==== On_written.lean ====
abbrev S8x1024x512 : Shape := ⟨3, ![8, 1024, 512]⟩
abbrev S512x16 : Shape := ⟨2, ![512, 16]⟩
abbrev S8x1024x16 : Shape := ⟨3, ![8, 1024, 16]⟩
abbrev S4x4x32x32x512 : Shape := ⟨5, ![4, 4, 32, 32, 512]⟩
abbrev S_ : Shape := ⟨0, ![]⟩

class Facts : Prop where
  bcast_S_S4x4x32x32x512 : S_.BroadcastsInDim S4x4x32x32x512 (![] : Fin 0 → Fin S4x4x32x32x512.rank)

variable [Facts]

def fn {F : FTy → Type} [FloatOps F] (main_arg0 : FVec F S8x1024x512 .bf16) (main_arg1 : FVec F S512x16 .bf16) (main_arg2 : FVec F S8x1024x16 .bf16) (main_arg3 : FVec F S8x1024x16 .bf16) : IVec S4x4x32x32x512 1 :=
  let main_v0 : IVec S4x4x32x32x512 32 := iotaInDim S4x4x32x32x512 32 0
  let main_c : IVec S_ 32 := constantI S_ 32 0#32
  let main_v1 : IVec S4x4x32x32x512 32 := broadcastInDim S4x4x32x32x512 ![] bcast_S_S4x4x32x32x512 main_c
  let main_v2 : IVec S4x4x32x32x512 1 := cmpi .eq main_v0 main_v1
  let main_c_0 : IVec S_ 32 := constantI S_ 32 3#32
  let main_v3 : IVec S4x4x32x32x512 32 := broadcastInDim S4x4x32x32x512 ![] bcast_S_S4x4x32x32x512 main_c_0
  let main_v4 : IVec S4x4x32x32x512 1 := cmpi .eq main_v0 main_v3
  let main_v5 : IVec S4x4x32x32x512 1 := ori main_v2 main_v4
  main_v5
-- ==== Kernel.lean ====
abbrev S8x512x512 : Shape := ⟨3, ![8, 512, 512]⟩
abbrev S512x16 : Shape := ⟨2, ![512, 16]⟩
abbrev S8x512x16 : Shape := ⟨3, ![8, 512, 16]⟩
abbrev S2x4x16x32x512 : Shape := ⟨5, ![2, 4, 16, 32, 512]⟩
abbrev S8x32x512 : Shape := ⟨3, ![8, 32, 512]⟩
abbrev S8x32x16 : Shape := ⟨3, ![8, 32, 16]⟩
abbrev S4x16x512 : Shape := ⟨3, ![4, 16, 512]⟩
abbrev S4x32x512 : Shape := ⟨3, ![4, 32, 512]⟩
abbrev S_ : Shape := ⟨0, ![]⟩
abbrev S16 : Shape := ⟨1, ![16]⟩
abbrev S16x512 : Shape := ⟨2, ![16, 512]⟩
abbrev S4x32x16 : Shape := ⟨3, ![4, 32, 16]⟩
abbrev S1x16x512 : Shape := ⟨3, ![1, 16, 512]⟩
abbrev S4x1x512 : Shape := ⟨3, ![4, 1, 512]⟩
abbrev S4x512 : Shape := ⟨2, ![4, 512]⟩
abbrev S4x1x16 : Shape := ⟨3, ![4, 1, 16]⟩
abbrev S4x16 : Shape := ⟨2, ![4, 16]⟩
abbrev S4x16x1 : Shape := ⟨3, ![4, 16, 1]⟩
abbrev S1x4x1x32x512 : Shape := ⟨5, ![1, 4, 1, 32, 512]⟩

abbrev nBuf : Space → Nat
  | .hbm => 5
  | .vmem => 14
  | .smem => 0
  | _ => 0

abbrev bufTy : (tb : Table) → Fin (tcTables nBuf tb) → BufTy
  | .hbm, ⟨0, _⟩ => ⟨S8x512x512, .bf16⟩
  | .hbm, ⟨1, _⟩ => ⟨S512x16, .bf16⟩
  | .hbm, ⟨2, _⟩ => ⟨S8x512x16, .bf16⟩
  | .hbm, ⟨3, _⟩ => ⟨S8x512x16, .bf16⟩
  | .hbm, ⟨4, _⟩ => ⟨S2x4x16x32x512, .bf16⟩
  | .local _ .vmem, ⟨0, _⟩ => ⟨S8x32x512, .bf16⟩
  | .local _ .vmem, ⟨1, _⟩ => ⟨S8x32x512, .bf16⟩
  | .local _ .vmem, ⟨2, _⟩ => ⟨S512x16, .bf16⟩
  | .local _ .vmem, ⟨3, _⟩ => ⟨S8x32x16, .bf16⟩
  | .local _ .vmem, ⟨4, _⟩ => ⟨S8x32x16, .bf16⟩
  | .local _ .vmem, ⟨5, _⟩ => ⟨S8x32x16, .bf16⟩
  | .local _ .vmem, ⟨6, _⟩ => ⟨S8x32x16, .bf16⟩
  | .local _ .vmem, ⟨7, _⟩ => ⟨S8x32x512, .bf16⟩
  | .local _ .vmem, ⟨8, _⟩ => ⟨S8x32x16, .bf16⟩
  | .local _ .vmem, ⟨9, _⟩ => ⟨S2x4x16x32x512, .bf16⟩
  | .local _ .vmem, ⟨10, _⟩ => ⟨S4x16x512, .f32⟩
  | .local _ .vmem, ⟨11, _⟩ => ⟨S4x16x512, .f32⟩
  | .local _ .vmem, ⟨12, _⟩ => ⟨S4x16x512, .f32⟩
  | .local _ .vmem, ⟨13, _⟩ => ⟨S4x32x512, .f32⟩
  | _, _ => ⟨S8x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 2 → Bool
  | ⟨0, _⟩ => false
  | ⟨1, _⟩ => true
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 2 44 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev barrier0 : Sem sig := 0

abbrev nD : Nat := 4
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let v14 : BitVec 32 := Scalar.extui v13
  let c0_i32_5 : BitVec 32 := 0#32
  let v15 : BitVec 1 := Scalar.cmpi .ne v14 c0_i32_5
  v15

def k0_dev1 (d0 : Dev nD) : Nat :=
  let c0_i32_123 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_122 : BitVec 32 := 2#32
  let v840 : BitVec 32 := Scalar.muli v6 c2_i32_122
  let v841 : BitVec 32 := Scalar.addi c0_i32_123 v840
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_124 : BitVec 32 := 1#32
  let v842 : BitVec 32 := Scalar.muli v5 c1_i32_124
  let v843 : BitVec 32 := Scalar.addi v841 v842
  v843.toNat
def k0_dev2 (d0 : Dev nD) : Nat :=
  let c0_i32_127 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_126 : BitVec 32 := 2#32
  let v844 : BitVec 32 := Scalar.muli v2 c2_i32_126
  let v845 : BitVec 32 := Scalar.addi c0_i32_127 v844
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_128 : BitVec 32 := 1#32
  let v846 : BitVec 32 := Scalar.muli v7 c1_i32_128
  let v847 : BitVec 32 := Scalar.addi v845 v846
  v847.toNat
def k0_off1 (d0 : Dev nD) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let v848 : Index := Scalar.indexCast v8
  let c0_130 : Index := 0#32
  let c0_131 : Index := 0#32
  ![v848.toNat, 0, 0]
def k0_off2 (d0 : Dev nD) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let v851 : Index := Scalar.indexCast v8
  let c0_132 : Index := 0#32
  let c0_133 : Index := 0#32
  ![v851.toNat, 0, 0]
def k0_cond2 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_138 : BitVec 32 := 0#32
  let v1338 : BitVec 1 := Scalar.cmpi .eq v2 c0_i32_138
  let v1339 : BitVec 32 := Scalar.extui v1338
  let c0_i32_139 : BitVec 32 := 0#32
  let v1340 : BitVec 1 := Scalar.cmpi .ne v1339 c0_i32_139
  v1340

def k0_dev3 (d0 : Dev nD) : Nat :=
  let c0_i32_151 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_150 : BitVec 32 := 2#32
  let v1351 : BitVec 32 := Scalar.muli v6 c2_i32_150
  let v1352 : BitVec 32 := Scalar.addi c0_i32_151 v1351
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_152 : BitVec 32 := 1#32
  let v1353 : BitVec 32 := Scalar.muli v5 c1_i32_152
  let v1354 : BitVec 32 := Scalar.addi v1352 v1353
  v1354.toNat
def k0_off3 (d0 : Dev nD) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let v16 : Index := Scalar.indexCast v8
  let c0_6 : Index := 0#32
  let c0_7 : Index := 0#32
  ![v16.toNat, 0, 0]
def k0_off4 (d0 : Dev nD) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4_i32 : BitVec 32 := 4#32
  let v8 : BitVec 32 := Scalar.muli v5 c4_i32
  let v19 : Index := Scalar.indexCast v8
  let c0_8 : Index := 0#32
  let c0_9 : Index := 0#32
  ![v19.toNat, 0, 0]
def k0_off5 (i : grid0.Coords) (d0 : Dev nD) : Fin 5 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v831 : Index := Scalar.indexCast v5
  let c0_117 : Index := 0#32
  let arg0 : BitVec 32 := BitVec.ofNat 32 (i 0).val
  let v832 : Index := Scalar.indexCast arg0
  let c0_118 : Index := 0#32
  let c0_119 : Index := 0#32
  ![v831.toNat, 0, v832.toNat, 0, 0]
def k0_cond4 (i : grid0.Coords) : BitVec 1 :=
  let arg0 : BitVec 32 := BitVec.ofNat 32 (i 0).val
  let c15_i32 : BitVec 32 := 15#32
  let v836 : BitVec 1 := Scalar.cmpi .eq arg0 c15_i32
  let v837 : BitVec 32 := Scalar.extui v836
  let c0_i32_120 : BitVec 32 := 0#32
  let v838 : BitVec 1 := Scalar.cmpi .ne v837 c0_i32_120
  v838

def k0_dev4 (d0 : Dev nD) : Nat :=
  let c0_i32_123_r0 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_122_r0 : BitVec 32 := 2#32
  let v840_r0 : BitVec 32 := Scalar.muli v6 c2_i32_122_r0
  let v841_r0 : BitVec 32 := Scalar.addi c0_i32_123_r0 v840_r0
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_124_r0 : BitVec 32 := 1#32
  let v842_r0 : BitVec 32 := Scalar.muli v5 c1_i32_124_r0
  let v843_r0 : BitVec 32 := Scalar.addi v841_r0 v842_r0
  v843_r0.toNat
def k0_dev5 (d0 : Dev nD) : Nat :=
  let c0_i32_127_r0 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_126_r0 : BitVec 32 := 2#32
  let v844_r0 : BitVec 32 := Scalar.muli v2 c2_i32_126_r0
  let v845_r0 : BitVec 32 := Scalar.addi c0_i32_127_r0 v844_r0
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_128_r0 : BitVec 32 := 1#32
  let v846_r0 : BitVec 32 := Scalar.muli v7 c1_i32_128_r0
  let v847_r0 : BitVec 32 := Scalar.addi v845_r0 v846_r0
  v847_r0.toNat
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c15_i32 : BitVec 32 := 15#32
  let c0_i32_0 : BitVec 32 := 0#32
  let c0_i32_1 : BitVec 32 := 0#32
  ![c0_i32.toNat, c15_i32.toNat, c0_i32_0.toNat]

def cc0_transform_5 (i : grid0.Coords) : Fin 3 → Nat :=
  let arg0 : BitVec 32 := BitVec.ofNat 32 (i 0).val
  let c0_i32 : BitVec 32 := 0#32
  let c15_i32 : BitVec 32 := 15#32
  let c0_i32_0 : BitVec 32 := 0#32
  let c0_i32_1 : BitVec 32 := 0#32
  ![c0_i32.toNat, c15_i32.toNat, c0_i32_0.toNat]

def cc0_transform_6 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

abbrev stage0_0 : Fin 2 → Memref sig .tc .vmem S8x32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x32x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x32x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x32x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x32x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x4x16x32x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S8x1024x512 : Shape := ⟨3, ![8, 1024, 512]⟩
abbrev S512x16 : Shape := ⟨2, ![512, 16]⟩
abbrev S8x1024x16 : Shape := ⟨3, ![8, 1024, 16]⟩
abbrev S1x512x16 : Shape := ⟨3, ![1, 512, 16]⟩
abbrev S_ : Shape := ⟨0, ![]⟩
abbrev S8x512x16 : Shape := ⟨3, ![8, 512, 16]⟩
abbrev S8x1x512 : Shape := ⟨3, ![8, 1, 512]⟩
abbrev S8x512x1 : Shape := ⟨3, ![8, 512, 1]⟩
abbrev S8x1x16 : Shape := ⟨3, ![8, 1, 16]⟩
abbrev S8x512 : Shape := ⟨2, ![8, 512]⟩
abbrev S2x4x32x32x512 : Shape := ⟨5, ![2, 4, 32, 32, 512]⟩
abbrev S4x4x32x32x512 : Shape := ⟨5, ![4, 4, 32, 32, 512]⟩

abbrev nBuf : Space → Nat
  | .hbm => 68
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S512x16, .bf16⟩
  | .hbm, ⟨2, _⟩ => ⟨S8x1024x16, .bf16⟩
  | .hbm, ⟨3, _⟩ => ⟨S8x1024x16, .bf16⟩
  | .hbm, ⟨4, _⟩ => ⟨S8x1024x512, .f32⟩
  | .hbm, ⟨5, _⟩ => ⟨S512x16, .f32⟩
  | .hbm, ⟨6, _⟩ => ⟨S8x1024x16, .f32⟩
  | .hbm, ⟨7, _⟩ => ⟨S8x1024x16, .f32⟩
  | .hbm, ⟨8, _⟩ => ⟨S512x16, .f32⟩
  | .hbm, ⟨9, _⟩ => ⟨S1x512x16, .f32⟩
  | .hbm, ⟨10, _⟩ => ⟨S_, .f32⟩
  | .hbm, ⟨11, _⟩ => ⟨S8x512x16, .f32⟩
  | .hbm, ⟨12, _⟩ => ⟨S_, .f32⟩
  | .hbm, ⟨13, _⟩ => ⟨S8x1024x512, .f32⟩
  | .hbm, ⟨14, _⟩ => ⟨S_, .i32⟩
  | .hbm, ⟨15, _⟩ => ⟨S_, .i32⟩
  | .hbm, ⟨16, _⟩ => ⟨S8x512x16, .f32⟩
  | .hbm, ⟨17, _⟩ => ⟨S8x1024x512, .f32⟩
  | .hbm, ⟨18, _⟩ => ⟨S8x1024x16, .f32⟩
  | .hbm, ⟨19, _⟩ => ⟨S1x512x16, .f32⟩
  | .hbm, ⟨20, _⟩ => ⟨S8x1024x16, .f32⟩
  | .hbm, ⟨21, _⟩ => ⟨S_, .i32⟩
  | .hbm, ⟨22, _⟩ => ⟨S_, .i32⟩
  | .hbm, ⟨23, _⟩ => ⟨S8x512x16, .f32⟩
  | .hbm, ⟨24, _⟩ => ⟨S8x512x16, .f32⟩
  | .hbm, ⟨25, _⟩ => ⟨S8x1024x512, .f32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S8x512x16, .f32⟩
  | .hbm, ⟨33, _⟩ => ⟨S_, .i32⟩
  | .hbm, ⟨34, _⟩ => ⟨S_, .i1⟩
  | .hbm, ⟨35, _⟩ => ⟨S8x512x16, .f32⟩
  | .hbm, ⟨36, _⟩ => ⟨S_, .i32⟩
  | .hbm, ⟨37, _⟩ => ⟨S_, .i32⟩
  | .hbm, ⟨38, _⟩ => ⟨S8x1x512, .f32⟩
  | .hbm, ⟨39, _⟩ => ⟨S8x512x1, .f32⟩
  | .hbm, ⟨40, _⟩ => ⟨S_, .i32⟩
  | .hbm, ⟨41, _⟩ => ⟨S_, .i32⟩
  | .hbm, ⟨42, _⟩ => ⟨S8x1x16, .f32⟩
  | .hbm, ⟨43, _⟩ => ⟨S8x512x16, .f32⟩
  | .hbm, ⟨44, _⟩ => ⟨S8x512x16, .f32⟩
  | .hbm, ⟨45, _⟩ => ⟨S8x512x16, .f32⟩
  | .hbm, ⟨46, _⟩ => ⟨S8x512x16, .f32⟩
  | .hbm, ⟨47, _⟩ => ⟨S8x512x16, .f32⟩
  | .hbm, ⟨48, _⟩ => ⟨S8x512x16, .f32⟩
  | .hbm, ⟨49, _⟩ => ⟨S8x512x16, .f32⟩
  | .hbm, ⟨50, _⟩ => ⟨S8x512x16, .f32⟩
  | .hbm, ⟨51, _⟩ => ⟨S8x512x16, .f32⟩
  | .hbm, ⟨52, _⟩ => ⟨S_, .i32⟩
  | .hbm, ⟨53, _⟩ => ⟨S_, .i32⟩
  | .hbm, ⟨54, _⟩ => ⟨S8x1x16, .f32⟩
  | .hbm, ⟨55, _⟩ => ⟨S8x512x16, .f32⟩
  | .hbm, ⟨56, _⟩ => ⟨S8x512x16, .f32⟩
  | .hbm, ⟨57, _⟩ => ⟨S_, .f32⟩
  | .hbm, ⟨58, _⟩ => ⟨S8x512, .f32⟩
  | .hbm, ⟨59, _⟩ => ⟨S8x1x512, .f32⟩
  | .hbm, ⟨60, _⟩ => ⟨S_, .i32⟩
  | .hbm, ⟨61, _⟩ => ⟨S_, .i32⟩
  | .hbm, ⟨62, _⟩ => ⟨S8x1024x512, .f32⟩
  | .hbm, ⟨63, _⟩ => ⟨S_, .i32⟩
  | .hbm, ⟨64, _⟩ => ⟨S_, .i32⟩
  | .hbm, ⟨65, _⟩ => ⟨S8x1024x512, .bf16⟩
  | .hbm, ⟨66, _⟩ => ⟨S2x4x32x32x512, .bf16⟩
  | .hbm, ⟨67, _⟩ => ⟨S4x4x32x32x512, .bf16⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_c : Ref sig .tc := ⟨.hbm, 14, rfl⟩
abbrev main_c_1 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev main_v8_6 : Ref sig .tc := ⟨.hbm, 22, rfl⟩
abbrev main_v8_7 : Ref sig .tc := ⟨.hbm, 23, rfl⟩
abbrev main_v8_8 : Ref sig .tc := ⟨.hbm, 24, rfl⟩
abbrev main_v8_9 : Ref sig .tc := ⟨.hbm, 25, rfl⟩
abbrev main_while0c_c_11 : Ref sig .tc := ⟨.hbm, 26, rfl⟩
abbrev main_while0c_v12 : Ref sig .tc := ⟨.hbm, 27, rfl⟩
abbrev main_while0b_c_11 : Ref sig .tc := ⟨.hbm, 28, rfl⟩
abbrev main_while0b_v12 : Ref sig .tc := ⟨.hbm, 29, rfl⟩
abbrev main_while0b_c_12 : Ref sig .tc := ⟨.hbm, 30, rfl⟩
abbrev main_while0b_v13 : Ref sig .tc := ⟨.hbm, 31, rfl⟩
abbrev main_while0b_v14 : Ref sig .tc := ⟨.hbm, 32, rfl⟩
abbrev main_while0b_c_13 : Ref sig .tc := ⟨.hbm, 33, rfl⟩
abbrev main_while0b_v15 : Ref sig .tc := ⟨.hbm, 34, rfl⟩
abbrev main_while0b_v16 : Ref sig .tc := ⟨.hbm, 35, rfl⟩
abbrev main_while0b_c_14 : Ref sig .tc := ⟨.hbm, 36, rfl⟩
abbrev main_while0b_c_15 : Ref sig .tc := ⟨.hbm, 37, rfl⟩
abbrev main_while0b_v17 : Ref sig .tc := ⟨.hbm, 38, rfl⟩
abbrev main_while0b_v18 : Ref sig .tc := ⟨.hbm, 39, rfl⟩
abbrev main_while0b_c_16 : Ref sig .tc := ⟨.hbm, 40, rfl⟩
abbrev main_while0b_c_17 : Ref sig .tc := ⟨.hbm, 41, rfl⟩
abbrev main_while0b_v19 : Ref sig .tc := ⟨.hbm, 42, rfl⟩
abbrev main_while0b_v20 : Ref sig .tc := ⟨.hbm, 43, rfl⟩
abbrev main_while0b_v21 : Ref sig .tc := ⟨.hbm, 44, rfl⟩
abbrev main_while0b_v22 : Ref sig .tc := ⟨.hbm, 45, rfl⟩
abbrev main_while0b_v23 : Ref sig .tc := ⟨.hbm, 46, rfl⟩
abbrev main_while0b_v24 : Ref sig .tc := ⟨.hbm, 47, rfl⟩
abbrev main_while0b_v25 : Ref sig .tc := ⟨.hbm, 48, rfl⟩
abbrev main_while0b_v26 : Ref sig .tc := ⟨.hbm, 49, rfl⟩
abbrev main_while0b_v27 : Ref sig .tc := ⟨.hbm, 50, rfl⟩
abbrev main_while0b_v28 : Ref sig .tc := ⟨.hbm, 51, rfl⟩
abbrev main_while0b_c_18 : Ref sig .tc := ⟨.hbm, 52, rfl⟩
abbrev main_while0b_c_19 : Ref sig .tc := ⟨.hbm, 53, rfl⟩
abbrev main_while0b_v29 : Ref sig .tc := ⟨.hbm, 54, rfl⟩
abbrev main_while0b_v30 : Ref sig .tc := ⟨.hbm, 55, rfl⟩
abbrev main_while0b_v31 : Ref sig .tc := ⟨.hbm, 56, rfl⟩
abbrev main_while0b_cst_20 : Ref sig .tc := ⟨.hbm, 57, rfl⟩
abbrev main_while0b_v32 : Ref sig .tc := ⟨.hbm, 58, rfl⟩
abbrev main_while0b_v33 : Ref sig .tc := ⟨.hbm, 59, rfl⟩
abbrev main_while0b_c_21 : Ref sig .tc := ⟨.hbm, 60, rfl⟩
abbrev main_while0b_c_22 : Ref sig .tc := ⟨.hbm, 61, rfl⟩
abbrev main_while0b_v34 : Ref sig .tc := ⟨.hbm, 62, rfl⟩
abbrev main_while0b_c_23 : Ref sig .tc := ⟨.hbm, 63, rfl⟩
abbrev main_while0b_v35 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩

abbrev nD : Nat := 1
abbrev τ : Topo := Topo.v7x

variable {F : FTy → Type} [FloatOps F]

abbrev main_while0_count : Scf.Loop 32 := ⟨0#32, 1024#32, 1#32⟩
-- ==== Proof.KernelIdealStep.lean ====
/- One step of the recurrence `h ← h·exp(A) + x·B`, its outputs, and the kernel body regrouped over them: the 32 steps of
   a chunk as one loop over pairs of rows, and the two hand-overs of the state at the first grid point. -/
module

public import proofs.«01_k».proof.Proof.Gen.KernelIdeal.Skeleton
public import proofs.«01_k».proof.Proof.Gen.KernelIdeal.Launch
public import proofs.«01_k».proof.Proof.Gen.KernelIdeal.Points

@[expose] public section

set_option synthInstance.maxSize 4096

noncomputable section

namespace Cert.KernelIdeal.Scan

open Idealize.ShloMosaic Idealize.SL.Sem
open Cert.KernelIdeal Cert.KernelIdeal.Gen

variable {F : FTy → Type} [FloatOps F]

/-! ## One step -/

theorem xrow_slices (s : Fin 32) : S4x32x512.Slices ![0, s.val, 0] S4x1x512 :=
  (by decide +kernel : ∀ s : Fin 32, S4x32x512.Slices ![0, s.val, 0] S4x1x512) s

theorem bcol_slices (s : Fin 32) : S4x32x16.Slices ![0, s.val, 0] S4x1x16 :=
  (by decide +kernel : ∀ s : Fin 32, S4x32x16.Slices ![0, s.val, 0] S4x1x16) s

theorem inb_row (s : Fin 32) : ∀ a, (![0, s.val, 0] : Fin 3 → Nat) a + S4x1x512.size a ≤ S4x32x512.size a :=
  (by decide +kernel : ∀ s : Fin 32, ∀ a, (![0, s.val, 0] : Fin 3 → Nat) a + S4x1x512.size a ≤ S4x32x512.size a) s

/-- Row `s` of a chunk of `x`: the inputs of step `s`, for each of the four batches. -/
def xrow (X : FVec F S4x32x512 .bf16) (s : Fin 32) : FVec F S4x1x512 .bf16 :=
  shapeCast S4x1x512
    (shapeCast S4x512 (extractStridedSlice S4x1x512 ![0, s.val, 0] X (xrow_slices s)) shapeCasts_S4x1x512_S4x512)
    shapeCasts_S4x512_S4x1x512

/-- Row `s` of a chunk of `B` or of `C`. -/
def bcol (B : FVec F S4x32x16 .bf16) (s : Fin 32) : FVec F S4x16 .bf16 :=
  shapeCast S4x16 (extractStridedSlice S4x1x16 ![0, s.val, 0] B (bcol_slices s)) shapeCasts_S4x1x16_S4x16

/-- The decay `exp(A)`, transposed, spread over the four batches. -/
def decay (a : FVec F S16x512 .bf16) : FVec F S4x16x512 .f32 :=
  broadcastTo S4x16x512 (extf .f32 (shapeCast S1x16x512 a shapeCasts_S16x512_S1x16x512) bitsLt_bf16_f32)
    broadcasts_S1x16x512_S4x16x512

/-- The outer product of a row of `B` and a row of `x`. -/
def upd (b : FVec F S4x16 .bf16) (x : FVec F S4x1x512 .bf16) : FVec F S4x16x512 .f32 :=
  extf .f32 (mulf (broadcastTo S4x16x512 x broadcasts_S4x1x512_S4x16x512)
    (broadcastTo S4x16x512 (shapeCast S4x16x1 b shapeCasts_S4x16_S4x16x1) broadcasts_S4x16x1_S4x16x512)) bitsLt_bf16_f32

/-- The state after step `s`, from the state before it. -/
def stepOf (a : FVec F S16x512 .bf16) (X : FVec F S4x32x512 .bf16) (B : FVec F S4x32x16 .bf16) (s : Fin 32)
    (h : FVec F S4x16x512 .f32) : FVec F S4x16x512 .f32 :=
  addf (mulf h (decay a)) (upd (bcol B s) (xrow X s))

/-- The state after the first `n` steps of a chunk. -/
def steps (a : FVec F S16x512 .bf16) (X : FVec F S4x32x512 .bf16) (B : FVec F S4x32x16 .bf16)
    (h : FVec F S4x16x512 .f32) : ℕ → FVec F S4x16x512 .f32
  | 0 => h
  | n + 1 => stepOf a X B (Fin.ofNat 32 n) (steps a X B h n)

/-- The output row of a state: its product with a row of `C`, summed over the state. -/
def yOf (c : FVec F S4x16 .bf16) (h : FVec F S4x16x512 .f32) : FVec F S4x1x512 .f32 :=
  shapeCast S4x1x512
    (multiReduction .add [1] S4x512
      (mulf h (broadcastTo S4x16x512 (extf .f32 (shapeCast S4x16x1 c shapeCasts_S4x16_S4x16x1) bitsLt_bf16_f32)
        broadcasts_S4x16x1_S4x16x512)) 0x00000000#32 reduces_S4x16x512_S4x512 (.inl rfl) rfl)
    shapeCasts_S4x512_S4x1x512

/-- The zero state. -/
def zeroState : FVec F S4x16x512 .f32 := broadcast S4x16x512 (Scalar.ofBits .f32 0x00000000#32)

/-- The state that the hand-over stores: 32 steps from zero. -/
def warm (a : FVec F S16x512 .bf16) (x : Vec F S4x32x512 .bf16) (b : Vec F S4x32x16 .bf16) : FVec F S4x16x512 .f32 :=
  shapeCast S4x16x512 (steps a (k0_pay2 x) (k0_pay3 b) zeroState 32) shapeCasts_S4x16x512_S4x16x512

/-! ## The rows of a chunk -/

/-- The values a pair of rows starts from: its row of `B`, its row of `C`, the decayed state, its row of `x`. -/
abbrev Row (F : FTy → Type) := Σ' (_ : FVec F S4x16 .bf16) (_ : FVec F S4x16 .bf16) (_ : FVec F S4x16x512 .f32), FVec F S4x1x512 .bf16

/-- Store one row of the outputs (the row is loaded first, and that value is not used). -/
def storeRow (arg11 : Memref sig .tc .vmem S4x32x512 .f32) (r : Fin 32) (w : FVec F S4x1x512 .f32) :
    Prog (TpuEff nD τ sig (Elt F) Λ₀ .tc) PUnit := do
  let _ ← Prog.lift (.load arg11 (Rect.unit (s := S4x32x512) ![0, r.val, 0] S4x1x512.size (inb_row r)).toLoadRect (View.loadsAt_vmem h_S4x1x512))
  Prog.lift (.store arg11 (Rect.unit (s := S4x32x512) ![0, r.val, 0] S4x1x512.size (inb_row r)) w Finset.univ (View.stores_vmem_bits_univ h_S4x1x512 rfl) (.inl rfl))

/-- Two steps: their output rows stored, the values of the next two returned. -/
def rowsPart (arg11 : Memref sig .tc .vmem S4x32x512 .f32) (a : FVec F S16x512 .bf16) (X : FVec F S4x32x512 .bf16)
    (B C : FVec F S4x32x16 .bf16) (k : ℕ) (st : Row F) : Prog (TpuEff nD τ sig (Elt F) Λ₀ .tc) (Row F) := do
  storeRow arg11 (Fin.ofNat 32 (2 * k)) (yOf st.2.1 (addf st.2.2.1 (upd st.1 st.2.2.2)))
  storeRow arg11 (Fin.ofNat 32 (2 * k + 1)) (yOf (bcol C (Fin.ofNat 32 (2 * k + 1)))
    (stepOf a X B (Fin.ofNat 32 (2 * k + 1)) (addf st.2.2.1 (upd st.1 st.2.2.2))))
  pure ⟨bcol B (Fin.ofNat 32 (2 * k + 2)), bcol C (Fin.ofNat 32 (2 * k + 2)),
    mulf (stepOf a X B (Fin.ofNat 32 (2 * k + 1)) (addf st.2.2.1 (upd st.1 st.2.2.2))) (decay a),
    xrow X (Fin.ofNat 32 (2 * k + 2))⟩

/-- `n` pairs of rows from pair `k` on, then the rest of the body. -/
def rowsLoop (arg11 : Memref sig .tc .vmem S4x32x512 .f32) (a : FVec F S16x512 .bf16) (X : FVec F S4x32x512 .bf16)
    (B C : FVec F S4x32x16 .bf16) (K : Row F → Prog (TpuEff nD τ sig (Elt F) Λ₀ .tc) PUnit) :
    ℕ → ℕ → Row F → Prog (TpuEff nD τ sig (Elt F) Λ₀ .tc) PUnit
  | 0, _, st => K st
  | n + 1, k, st => rowsPart arg11 a X B C k st >>= fun st' => rowsLoop arg11 a X B C K n (k + 1) st'

/-- The last pair of rows, the state and the outputs stored, then `K`. -/
def lastRows (i : grid0.Coords) (arg7 : Memref sig .tc .vmem S2x4x16x32x512 .bf16) (harg7 : arg7.IsWhole)
    (arg10 : Memref sig .tc .vmem S4x16x512 .f32) (arg11 : Memref sig .tc .vmem S4x32x512 .f32) (d0 : Dev nD)
    (a : FVec F S16x512 .bf16) (X : FVec F S4x32x512 .bf16) (B C : FVec F S4x32x16 .bf16)
    (K : Prog (TpuEff nD τ sig (Elt F) Λ₀ .tc) PUnit) (st : Row F) : Prog (TpuEff nD τ sig (Elt F) Λ₀ .tc) PUnit := do
  storeRow arg11 30 (yOf st.2.1 (addf st.2.2.1 (upd st.1 st.2.2.2)))
  storeRow arg11 31 (yOf (bcol C 31) (stepOf a X B 31 (addf st.2.2.1 (upd st.1 st.2.2.2))))
  let _ ← Prog.lift (.load arg10 (Rect.unit (s := S4x16x512) ![0, 0, 0] S4x16x512.size inb_S4x16x512_S4x16x512_0_0_0).toLoadRect (View.loadsAt_vmem h_S4x16x512))
  Prog.lift (.store arg10 (Rect.unit (s := S4x16x512) ![0, 0, 0] S4x16x512.size inb_S4x16x512_S4x16x512_0_0_0)
    (shapeCast S4x16x512 (stepOf a X B 31 (addf st.2.2.1 (upd st.1 st.2.2.2))) shapeCasts_S4x16x512_S4x16x512)
    Finset.univ (View.stores_vmem_bits_univ h_S4x16x512 rfl) (.inl rfl))
  let v829 : Vec F S4x32x512 .f32 ← Prog.lift (.load arg11 (Rect.unit (s := S4x32x512) ![0, 0, 0] S4x32x512.size inb_S4x32x512_S4x32x512_0_0_0).toLoadRect (View.loadsAt_vmem h_S4x32x512))
  let _ ← Prog.lift (.load arg7 (Rect.unit (s := S2x4x16x32x512) (k0_off5 i d0) S1x4x1x32x512.size (k0_off5_inb i d0)).toLoadRect (View.loadsAt_vmem h_S1x4x1x32x512))
  Prog.lift (.store arg7 (Rect.unit (s := S2x4x16x32x512) (k0_off5 i d0) S1x4x1x32x512.size (k0_off5_inb i d0)) (k0_pay1 v829) Finset.univ (View.stores_vmem h_S1x4x1x32x512 (harg7.storeExact_slice rfl _ (k0_off5_packedbf16 i d0)) (fun _ => rfl)) (.inl rfl))
  K

/-- One grid point after the hand-over: the chunk's blocks loaded, its 32 steps run, then `K`. -/
def chunk (i : grid0.Coords) (arg1 : Memref sig .tc .vmem S8x32x512 .bf16) (arg3 arg4 : Memref sig .tc .vmem S8x32x16 .bf16)
    (arg7 : Memref sig .tc .vmem S2x4x16x32x512 .bf16) (harg7 : arg7.IsWhole)
    (arg10 : Memref sig .tc .vmem S4x16x512 .f32) (arg11 : Memref sig .tc .vmem S4x32x512 .f32) (d0 : Dev nD)
    (v9 : Vec F S512x16 .bf16) (K : Prog (TpuEff nD τ sig (Elt F) Λ₀ .tc) PUnit) : Prog (TpuEff nD τ sig (Elt F) Λ₀ .tc) PUnit := do
  let v17 : Vec F S4x32x512 .bf16 ← Prog.lift (.load arg1 (Rect.unit (s := S8x32x512) (k0_off3 d0) S4x32x512.size (k0_off3_inb d0)).toLoadRect (View.loadsAt_vmem h_S4x32x512))
  let v20 : Vec F S4x32x16 .bf16 ← Prog.lift (.load arg3 (Rect.unit (s := S8x32x16) (k0_off4 d0) S4x32x16.size (k0_off4_inb d0)).toLoadRect (View.loadsAt_vmem h_S4x32x16))
  let v23 : Vec F S4x32x16 .bf16 ← Prog.lift (.load arg4 (Rect.unit (s := S8x32x16) (k0_off4 d0) S4x32x16.size (k0_off4_inb d0)).toLoadRect (View.loadsAt_vmem h_S4x32x16))
  let v25 : Vec F S4x16x512 .f32 ← Prog.lift (.load arg10 (Rect.unit (s := S4x16x512) ![0, 0, 0] S4x16x512.size inb_S4x16x512_S4x16x512_0_0_0).toLoadRect (View.loadsAt_vmem h_S4x16x512))
  rowsLoop arg11 (k0_pay29 v9) (k0_pay31 v17) (k0_pay32 v20) (k0_pay33 v23)
    (lastRows i arg7 harg7 arg10 arg11 d0 (k0_pay29 v9) (k0_pay31 v17) (k0_pay32 v20) (k0_pay33 v23) K) 15 0
    ⟨k0_pay34 v20, k0_pay35 v23, k0_pay36 v9 v25, k0_pay37 v17⟩

end Cert.KernelIdeal.Scan
-- ==== Proof.KernelIdealRegroup.lean ====
/- The kernel body as the regrouped programs of `Step`: at the first grid point the signals, the wait and the hand-over of
   the state, sent by the devices of the first half and awaited by those of the second; at every point the chunk; at the
   last point the exit signals and their wait. -/
module

public import proofs.«01_k».proof.Proof.KernelIdealStep

@[expose] public section

set_option synthInstance.maxSize 4096

noncomputable section

namespace Cert.KernelIdeal.Scan

open Idealize.ShloMosaic Idealize.SL.Sem
open Cert.KernelIdeal Cert.KernelIdeal.Gen

variable {F : FTy → Type} [FloatOps F]

/-- A program of the kernel. -/
abbrev BProg (F : FTy → Type) := Prog (TpuEff nD τ sig (Elt F) Λ₀ .tc) PUnit

/-- The signals to the two neighbours and the wait for theirs, then `K`. -/
def entryBarrier (i : grid0.Coords) (d0 : Dev nD) (k0_h1 : k0_cond1 i = 1#1) (K : BProg F) : BProg F := do
  let v839 : Sems sig S_ := SemArray.scalar (sig.barrier 0 rfl)
  semSignalWord (⟨k0_dev1 d0, k0_dev1_lt i d0 k0_h1⟩ : Dev nD) v839.sem 1#32
  semSignalWord (⟨k0_dev2 d0, k0_dev2_lt i d0 k0_h1⟩ : Dev nD) v839.sem 1#32
  semWaitWord v839.sem 2#32
  K

/-- The state of 32 steps over the device's own half of the tail blocks, stored to be sent. -/
def storeWarm (i : grid0.Coords) (d0 : Dev nD) (k0_h1 : k0_cond1 i = 1#1)
    (arg5 : Memref sig .tc .vmem S8x32x512 .bf16) (arg6 : Memref sig .tc .vmem S8x32x16 .bf16)
    (arg8 : Memref sig .tc .vmem S4x16x512 .f32) (v9 : Vec F S512x16 .bf16) (K : BProg F) : BProg F := do
  let v849 : Vec F S4x32x512 .bf16 ← Prog.lift (.load arg5 (Rect.unit (s := S8x32x512) (k0_off1 d0) S4x32x512.size (k0_off1_inb i d0 k0_h1)).toLoadRect (View.loadsAt_vmem h_S4x32x512))
  let v852 : Vec F S4x32x16 .bf16 ← Prog.lift (.load arg6 (Rect.unit (s := S8x32x16) (k0_off2 d0) S4x32x16.size (k0_off2_inb i d0 k0_h1)).toLoadRect (View.loadsAt_vmem h_S4x32x16))
  let _ ← Prog.lift (.load arg8 (Rect.unit (s := S4x16x512) ![0, 0, 0] S4x16x512.size inb_S4x16x512_S4x16x512_0_0_0).toLoadRect (View.loadsAt_vmem h_S4x16x512))
  Prog.lift (.store arg8 (Rect.unit (s := S4x16x512) ![0, 0, 0] S4x16x512.size inb_S4x16x512_S4x16x512_0_0_0) (warm (k0_pay29 v9) v849 v852) Finset.univ (View.stores_vmem_bits_univ h_S4x16x512 rfl) (.inl rfl))
  K

/-- The send of the state and the wait for its departure, then `K`. -/
def sendState (i : grid0.Coords) (d0 : Dev nD) (k0_h1 : k0_cond1 i = 1#1) (k0_h2 : k0_cond2 d0 = 1#1)
    (arg8 : Memref sig .tc .vmem S4x16x512 .f32) (harg8 : arg8.IsWhole) (arg9 : Memref sig .tc .vmem S4x16x512 .f32) (harg9 : arg9.IsWhole)
    (arg12 arg13 : DmaSems sig S_) (K : BProg F) : BProg F := do
  Prog.lift (.enqueueDma arg8 (.remote (Dev.tc (⟨k0_dev3 d0, k0_dev3_lt i d0 k0_h1 k0_h2⟩ : Dev nD)) arg9 (.dma arg12.sem)) (.dma arg13.sem) harg8.wordExact harg9.wordExact ⟨⟨rfl, Or.inl rfl⟩, trivial⟩)
  Prog.lift (.waitDma2 arg12.sem arg9 arg8 harg9.wordExact harg8.wordExact)
  K

/-- The wait for the state that the first half's device sends, then `K`. -/
def recvState (arg8 : Memref sig .tc .vmem S4x16x512 .f32) (harg8 : arg8.IsWhole) (arg9 : Memref sig .tc .vmem S4x16x512 .f32) (harg9 : arg9.IsWhole)
    (arg13 : DmaSems sig S_) (K : BProg F) : BProg F := do
  Prog.lift (.waitDma2 arg13.sem arg8 arg9 harg8.wordExact harg9.wordExact)
  K

/-- The state set at the first point: the received one on the second half's devices, zero on the first half's. -/
def setCarry (arg9 arg10 : Memref sig .tc .vmem S4x16x512 .f32) (sel : BitVec 1) (K : BProg F) : BProg F := do
  let v1345 : Vec F S4x16x512 .f32 ← Prog.lift (.load arg9 (Rect.unit (s := S4x16x512) ![0, 0, 0] S4x16x512.size inb_S4x16x512_S4x16x512_0_0_0).toLoadRect (View.loadsAt_vmem h_S4x16x512))
  let _ ← Prog.lift (.load arg10 (Rect.unit (s := S4x16x512) ![0, 0, 0] S4x16x512.size inb_S4x16x512_S4x16x512_0_0_0).toLoadRect (View.loadsAt_vmem h_S4x16x512))
  Prog.lift (.store arg10 (Rect.unit (s := S4x16x512) ![0, 0, 0] S4x16x512.size inb_S4x16x512_S4x16x512_0_0_0) (k0_pay30 sel v1345 (Scalar.ofBits .f32 0x00000000#32)) Finset.univ (View.stores_vmem_bits_univ h_S4x16x512 rfl) (.inl rfl))
  K

/-- The exit signals to the two neighbours and the wait for theirs. -/
def exitBarrier (i : grid0.Coords) (d0 : Dev nD) (k0_h4 : k0_cond4 i = 1#1) (v839_r0 : Sems sig S_) : BProg F := do
  semSignalWord (⟨k0_dev4 d0, k0_dev4_lt i d0 k0_h4⟩ : Dev nD) v839_r0.sem 1#32
  semSignalWord (⟨k0_dev5 d0, k0_dev5_lt i d0 k0_h4⟩ : Dev nD) v839_r0.sem 1#32
  semWaitWord v839_r0.sem 2#32

/-- The word that tells a device of the second half. -/
def isSecond (d0 : Dev nD) : BitVec 1 := Scalar.cmpi .eq (Scalar.remsi (Scalar.divsi (Dev.word d0) 2#32) 2#32) 1#32

/-- What follows the chunk. -/
def afterChunk (i : grid0.Coords) (d0 : Dev nD) (v839_r0 : Sems sig S_) : BProg F :=
  if k0_h4 : k0_cond4 i = 1#1 then exitBarrier i d0 k0_h4 v839_r0 else pure ⟨⟩

theorem first_half_select : ∀ d0 : Dev nD, k0_cond2 d0 = 1#1 → ¬ (Scalar.cmpi .ne (Scalar.extui (isSecond d0) : BitVec 32) 0#32 = 1#1) := by decide +kernel

theorem second_half_select : ∀ d0 : Dev nD, ¬ k0_cond2 d0 = 1#1 → (Scalar.cmpi .ne (Scalar.extui (isSecond d0) : BitVec 32) 0#32 = 1#1) := by decide +kernel

section
variable (i : grid0.Coords) (arg1 : Memref sig .tc .vmem S8x32x512 .bf16) (harg1 : arg1.IsWhole) (arg2 : Memref sig .tc .vmem S512x16 .bf16) (harg2 : arg2.IsWhole) (arg3 : Memref sig .tc .vmem S8x32x16 .bf16) (harg3 : arg3.IsWhole) (arg4 : Memref sig .tc .vmem S8x32x16 .bf16) (harg4 : arg4.IsWhole) (arg5 : Memref sig .tc .vmem S8x32x512 .bf16) (harg5 : arg5.IsWhole) (arg6 : Memref sig .tc .vmem S8x32x16 .bf16) (harg6 : arg6.IsWhole) (arg7 : Memref sig .tc .vmem S2x4x16x32x512 .bf16) (harg7 : arg7.IsWhole) (arg8 : Memref sig .tc .vmem S4x16x512 .f32) (harg8 : arg8.IsWhole) (arg9 : Memref sig .tc .vmem S4x16x512 .f32) (harg9 : arg9.IsWhole) (arg10 : Memref sig .tc .vmem S4x16x512 .f32) (harg10 : arg10.IsWhole) (arg11 : Memref sig .tc .vmem S4x32x512 .f32) (harg11 : arg11.IsWhole) (arg12 : DmaSems sig S_) (arg13 : DmaSems sig S_) (arg14 : DmaSems sig S16) (arg15 : DmaSems sig S16) (v839_r0 : Sems sig S_)

/-- The first point's hand-over on device `d0`. -/
def handOver (k0_h1 : k0_cond1 i = 1#1) (d0 : Dev nD) (v9 : Vec F S512x16 .bf16) (K : BProg F) : BProg F :=
  entryBarrier i d0 k0_h1 <| storeWarm i d0 k0_h1 arg5 arg6 arg8 v9 <|
    if k0_h2 : k0_cond2 d0 = 1#1 then
      sendState i d0 k0_h1 k0_h2 arg8 harg8 arg9 harg9 arg12 arg13 <| setCarry arg9 arg10 (isSecond d0) K
    else recvState arg8 harg8 arg9 harg9 arg13 <| setCarry arg9 arg10 (isSecond d0) K

/-- One pair of rows peeled off the loop. -/
theorem rowsLoop_peel {arg11 : Memref sig .tc .vmem S4x32x512 .f32} {a : FVec F S16x512 .bf16} {X : FVec F S4x32x512 .bf16}
    {B C : FVec F S4x32x16 .bf16} {K : Row F → BProg F} {n k : ℕ} {st : Row F}
    {P : Prog (TpuEff nD τ sig (Elt F) Λ₀ .tc) (Row F)} {K' : Row F → BProg F}
    (hP : P = rowsPart arg11 a X B C k st)
    (hK : ∀ b c h x, K' ⟨b, c, h, x⟩ = rowsLoop arg11 a X B C K n (k + 1) ⟨b, c, h, x⟩) :
    (P >>= K') = rowsLoop arg11 a X B C K (n + 1) k st := by
  subst hP
  exact congrArg _ (funext fun ⟨b, c, h, x⟩ => hK b c h x)

set_option maxRecDepth 65536 in
theorem body_later (h1 : ¬ k0_cond1 i = 1#1) :
    cc0_body (F := F) i arg1 harg1 arg2 harg2 arg3 harg3 arg4 harg4 arg5 harg5 arg6 harg6 arg7 harg7 arg8 harg8 arg9 harg9 arg10 harg10 arg11 harg11 arg12 arg13 arg14 arg15 v839_r0
      = .op .deviceId fun d0 => .op (.load arg2 (Rect.unit (s := S512x16) ![0, 0] S512x16.size inb_S512x16_S512x16_0_0).toLoadRect (View.loadsAt_vmem h_S512x16)) fun v9 =>
          chunk i arg1 arg3 arg4 arg7 harg7 arg10 arg11 d0 v9 (afterChunk i d0 v839_r0) := by
  rw [cc0_body_eq_skeleton]; unfold cc0_body_skel
  rw [k0_part10_eq_skeleton]; unfold k0_part10_skel
  simp only [dif_neg h1, Prog.lift, Prog.bind_op, Prog.bind_ret, Prog.pure_eq_ret]
  refine congrArg (Prog.op _) (funext fun d0 => congrArg (Prog.op _) (funext fun v9 => ?_))
  unfold chunk
  simp only [Prog.lift, Prog.bind_op, Prog.bind_ret, Prog.pure_eq_ret]
  refine congrArg (Prog.op _) (funext fun v17 => congrArg (Prog.op _) (funext fun v20 =>
    congrArg (Prog.op _) (funext fun v23 => congrArg (Prog.op _) (funext fun v25 => ?_))))
  iterate 15 refine rowsLoop_peel rfl fun b c h x => ?_
  rfl

set_option maxRecDepth 65536 in
theorem body_first (h1 : k0_cond1 i = 1#1) :
    cc0_body (F := F) i arg1 harg1 arg2 harg2 arg3 harg3 arg4 harg4 arg5 harg5 arg6 harg6 arg7 harg7 arg8 harg8 arg9 harg9 arg10 harg10 arg11 harg11 arg12 arg13 arg14 arg15 v839_r0
      = .op .deviceId fun d0 => .op (.load arg2 (Rect.unit (s := S512x16) ![0, 0] S512x16.size inb_S512x16_S512x16_0_0).toLoadRect (View.loadsAt_vmem h_S512x16)) fun v9 =>
          handOver i arg5 arg6 arg8 harg8 arg9 harg9 arg10 arg12 arg13 h1 d0 v9
            (chunk i arg1 arg3 arg4 arg7 harg7 arg10 arg11 d0 v9 (afterChunk i d0 v839_r0)) := by
  rw [cc0_body_eq_skeleton]; unfold cc0_body_skel
  rw [k0_part10_eq_skeleton]; unfold k0_part10_skel
  simp only [dif_pos h1, Prog.lift, Prog.bind_op, Prog.bind_ret, Prog.pure_eq_ret, k0_part1_eq_skeleton, k0_part2_eq_skeleton,
    k0_part3_eq_skeleton, k0_part4_eq_skeleton, k0_part5_eq_skeleton, k0_part6_eq_skeleton, k0_part7_eq_skeleton,
    k0_part8_eq_skeleton, k0_part9_eq_skeleton]
  simp only [k0_part1_skel, k0_part2_skel, k0_part3_skel, k0_part4_skel, k0_part5_skel, k0_part6_skel, k0_part7_skel, k0_part8_skel, k0_part9_skel,
    semSignalWord, semWaitWord, Prog.lift, Prog.bind_op, Prog.bind_ret, Prog.pure_eq_ret]
  refine congrArg (Prog.op _) (funext fun d0 => congrArg (Prog.op _) (funext fun v9 => ?_))
  by_cases h2 : k0_cond2 d0 = 1#1
  · have h3 := first_half_select d0 h2
    unfold isSecond at h3
    unfold handOver entryBarrier storeWarm sendState setCarry chunk
    simp only [dif_pos h2, dif_neg h3, semSignalWord, semWaitWord, Prog.lift, Prog.bind_op, Prog.bind_ret, Prog.pure_eq_ret]
    refine congrArg (Prog.op _) (funext fun _ => congrArg (Prog.op _) (funext fun _ => congrArg (Prog.op _) (funext fun _ =>
      congrArg (Prog.op _) (funext fun v849 => congrArg (Prog.op _) (funext fun v852 => congrArg (Prog.op _) (funext fun _ => ?_))))))
    refine congrArg₂ Prog.op (congrArg (fun w => TpuEff.store _ _ w _ _ _) ?_) (funext fun _ => ?_)
    · rfl
    refine congrArg (Prog.op _) (funext fun _ => congrArg (Prog.op _) (funext fun _ => congrArg (Prog.op _) (funext fun _ =>
      congrArg (Prog.op _) (funext fun _ => congrArg (Prog.op _) (funext fun _ => congrArg (Prog.op _) (funext fun v17 =>
      congrArg (Prog.op _) (funext fun v20 => congrArg (Prog.op _) (funext fun v23 => congrArg (Prog.op _) (funext fun v25 => ?_)))))))))
    iterate 15 refine rowsLoop_peel rfl fun b c h x => ?_
    rfl
  · have h3 := second_half_select d0 h2
    unfold isSecond at h3
    unfold handOver entryBarrier storeWarm recvState setCarry chunk
    simp only [dif_neg h2, dif_pos h3, semSignalWord, semWaitWord, Prog.lift, Prog.bind_op, Prog.bind_ret, Prog.pure_eq_ret]
    refine congrArg (Prog.op _) (funext fun _ => congrArg (Prog.op _) (funext fun _ => congrArg (Prog.op _) (funext fun _ =>
      congrArg (Prog.op _) (funext fun v849 => congrArg (Prog.op _) (funext fun v852 => congrArg (Prog.op _) (funext fun _ => ?_))))))
    refine congrArg₂ Prog.op (congrArg (fun w => TpuEff.store _ _ w _ _ _) ?_) (funext fun _ => ?_)
    · rfl
    refine congrArg (Prog.op _) (funext fun _ => congrArg (Prog.op _) (funext fun _ => congrArg (Prog.op _) (funext fun _ =>
      congrArg (Prog.op _) (funext fun _ => congrArg (Prog.op _) (funext fun v17 =>
      congrArg (Prog.op _) (funext fun v20 => congrArg (Prog.op _) (funext fun v23 => congrArg (Prog.op _) (funext fun v25 => ?_))))))))
    iterate 15 refine rowsLoop_peel rfl fun b c h x => ?_
    rfl

end

end Cert.KernelIdeal.Scan
-- ==== Proof.KernelIdealSched.lean ====
/- The semaphores of the kernel and what each round of them hands over.

   Devices are `2x + y`; the devices of the first half of the time axis are those with `x = 0`. Every cell has one round.
   - barrier cell: one unit from the `x` neighbour, one from the `y` neighbour. Each brings the mark that the neighbour is
     ready to be signalled at its exit cell; on a first-half device the `x` neighbour's brings the neighbour's landing
     buffer and the mark of its receive cell besides.
   - send cell (first half): the departure of the state, which returns the buffer it was sent from.
   - receive cell (second half): the arrival of the state, which brings the landing buffer holding it.
   - exit cell: one unit from each neighbour, bringing nothing. -/
module

public import proofs.«01_k».proof.Proof.KernelIdealRegroup
public import Idealize.ShloMosaic.Lib.Pipeline.Launch
public import Idealize.ShloMosaic.Lib.Pipeline.Kit
public import Idealize.ShloMosaic.Lib.Tactic

@[expose] public section

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg cellOf)

variable {F : FTy → Type} [FloatOps F]

/-- The exchange's own resource algebra, and the whole one: the pipeline's copies beside it. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Devices -/

/-- The neighbour in the other half of the time axis. -/
def xp (c : Dev nD) : Dev nD := c + 2
/-- The neighbour that holds the same half of the time axis. -/
def yp (c : Dev nD) : Dev nD := ![1, 0, 3, 2] c

theorem xp_xp : ∀ c : Dev nD, xp (xp c) = c := by decide
theorem yp_yp : ∀ c : Dev nD, yp (yp c) = c := by decide

/-- The permutations of the devices that the signals follow. -/
def xpE : Dev nD ≃ Dev nD := ⟨xp, xp, xp_xp, xp_xp⟩
def ypE : Dev nD ≃ Dev nD := ⟨yp, yp, yp_yp, yp_yp⟩

/-- A device of the first half of the time axis. -/
abbrev First (c : Dev nD) : Prop := k0_cond2 c = 1#1

theorem first_xp : ∀ c : Dev nD, First (xp c) ↔ ¬ First c := by decide +kernel

theorem dev1_eq (i : grid0.Coords) (c : Dev nD) (h : k0_cond1 i = 1#1) : (⟨k0_dev1 c, k0_dev1_lt i c h⟩ : Dev nD) = xp c :=
  Fin.ext ((by decide +kernel : ∀ c : Dev nD, k0_dev1 c = (xp c).val) c)
theorem dev2_eq (i : grid0.Coords) (c : Dev nD) (h : k0_cond1 i = 1#1) : (⟨k0_dev2 c, k0_dev2_lt i c h⟩ : Dev nD) = yp c :=
  Fin.ext ((by decide +kernel : ∀ c : Dev nD, k0_dev2 c = (yp c).val) c)
theorem dev3_eq (i : grid0.Coords) (c : Dev nD) (h : k0_cond1 i = 1#1) (h' : k0_cond2 c = 1#1) : (⟨k0_dev3 c, k0_dev3_lt i c h h'⟩ : Dev nD) = xp c :=
  Fin.ext ((by decide +kernel : ∀ c : Dev nD, k0_dev3 c = (xp c).val) c)
theorem dev4_eq (i : grid0.Coords) (c : Dev nD) (h : k0_cond4 i = 1#1) : (⟨k0_dev4 c, k0_dev4_lt i c h⟩ : Dev nD) = xp c :=
  Fin.ext ((by decide +kernel : ∀ c : Dev nD, k0_dev4 c = (xp c).val) c)
theorem dev5_eq (i : grid0.Coords) (c : Dev nD) (h : k0_cond4 i = 1#1) : (⟨k0_dev5 c, k0_dev5_lt i c h⟩ : Dev nD) = yp c :=
  Fin.ext ((by decide +kernel : ∀ c : Dev nD, k0_dev5 c = (yp c).val) c)

/-! ## The scratch buffers and the cells -/

abbrev sbufM : Memref sig .tc .vmem S4x16x512 .f32 := Memref.whole cc0_scratch0
abbrev rbufM : Memref sig .tc .vmem S4x16x512 .f32 := Memref.whole cc0_scratch1
abbrev carM : Memref sig .tc .vmem S4x16x512 .f32 := Memref.whole cc0_scratch2
abbrev ybufM : Memref sig .tc .vmem S4x32x512 .f32 := Memref.whole cc0_scratch3

/-- A state, as a buffer of its shape holds it. -/
abbrev St (F : FTy → Type) : Type := FVec F S4x16x512 .f32

abbrev barS : Sem sig := (SemArray.scalar (sig.barrier 0 rfl) : Sems sig S_).sem
abbrev exitS : Sem sig := (cc0_scoped0 : Sems sig S_).sem
abbrev hsS : DmaSem sig := (cc0_scratch4 : DmaSems sig S_).sem
abbrev hrS : DmaSem sig := (cc0_scratch5 : DmaSems sig S_).sem

abbrev barCell (c : Dev nD) : GSem nD τ sig := ((c : Thread nD τ), .reg barS)
abbrev exCell (c : Dev nD) : GSem nD τ sig := ((c : Thread nD τ), .reg exitS)
abbrev hsCell (c : Dev nD) : GSem nD τ sig := ((c : Thread nD τ), .dma hsS)
abbrev hrCell (c : Dev nD) : GSem nD τ sig := ((c : Thread nD τ), .dma hrS)

/-- The kernel's own scoped semaphores that carry anything: send, receive, exit. -/
abbrev osem : Fin 3 → SemLoc sig := fun | 0 => .dma hsS | 1 => .dma hrS | 2 => .reg exitS

/-- What a whole state's copy is worth in its semaphores. -/
abbrev NN : ℕ := (rbufM : Memref sig .tc .vmem S4x16x512 .f32).view.dmaCredit
theorem NN_pos : 0 < NN := View.dmaCredit_pos _ (by decide)

theorem ex_ne_bar : (SemLoc.reg exitS : SemLoc sig) ≠ .reg barS := by decide
theorem hs_ne_bar : (SemLoc.dma hsS : SemLoc sig) ≠ .reg barS := fun h => by cases h
theorem hr_ne_bar : (SemLoc.dma hrS : SemLoc sig) ≠ .reg barS := fun h => by cases h
theorem hs_ne_ex : (SemLoc.dma hsS : SemLoc sig) ≠ .reg exitS := fun h => by cases h
theorem hr_ne_ex : (SemLoc.dma hrS : SemLoc sig) ≠ .reg exitS := fun h => by cases h
theorem hr_ne_hs : (SemLoc.dma hrS : SemLoc sig) ≠ .dma hsS := by decide

/-! ## Points-tos and payloads -/

/-- The send buffer, the landing buffer. -/
def sPts (c : Dev nD) (f : St F) : sProp 𝕄 :=
  (sbufM : Memref sig .tc .vmem S4x16x512 .f32).view.loc (c : Thread nD τ) ↦[(sbufM : Memref sig .tc .vmem S4x16x512 .f32).view.set]{fullShare} f
def rPts (c : Dev nD) (f : St F) : sProp 𝕄 :=
  (rbufM : Memref sig .tc .vmem S4x16x512 .f32).view.loc (c : Thread nD τ) ↦[(rbufM : Memref sig .tc .vmem S4x16x512 .f32).view.set]{fullShare} f

instance sPts_storable (c : Dev nD) (f : St F) : BI.Storable (upEmb : UEmb _ 𝕄) (sPts c f) := by unfold sPts; infer_instance
instance rPts_storable (c : Dev nD) (f : St F) : BI.Storable (upEmb : UEmb _ 𝕄) (rPts c f) := by unfold rPts; infer_instance

theorem sPts_eq (c : Dev nD) (f : St F) : sPts c f = (((c : Thread nD τ).loc cc0_scratch0) ↦{fullShare} f : sProp 𝕄) := by
  unfold sPts; rw [show (sbufM : Memref sig .tc .vmem S4x16x512 .f32).view.set = Finset.univ from View.set_whole _]
theorem rPts_eq (c : Dev nD) (f : St F) : rPts c f = (((c : Thread nD τ).loc cc0_scratch1) ↦{fullShare} f : sProp 𝕄) := by
  unfold rPts; rw [show (rbufM : Memref sig .tc .vmem S4x16x512 .f32).view.set = Finset.univ from View.set_whole _]

/-- The `x` neighbour's landing buffer with the mark of its receive cell, which a first-half device is handed. -/
def landPay (c : Dev nD) : sProp 𝕄 := iprop((∃ f : St F, rPts (xp c) f) ∗ reached ER (hrCell (xp c)) 0)

/-- What each of the two units on a barrier cell hands over. -/
def barPay (c : Dev nD) (d : Bool) : sProp 𝕄 :=
  if d then iprop(reached ER (exCell (xp c)) 0 ∗ (if First c then landPay (F := F) c else iprop(emp)))
  else reached ER (exCell (yp c)) 0

instance barPay_storable (c : Dev nD) (d : Bool) : BI.Storable (upEmb : UEmb _ 𝕄) (barPay (F := F) c d) := by
  unfold barPay landPay
  split
  · by_cases h : First c
    · rw [if_pos h]; infer_instance
    · rw [if_neg h]; infer_instance
  · infer_instance

variable (tl : Dev nD → St F)

/-- The schedule; `tl c` is the state that device `c` sends. -/
def rd : Rounds.Schedule (GSem nD τ sig) Bool 𝕄 where
  duties g r :=
    if r = 0 ∧ g.1.2 = .tc then
      if g.2 = .reg barS ∨ g.2 = .reg exitS then Finset.univ
      else if (g.2 = .dma hsS ∧ First g.1.1) ∨ (g.2 = .dma hrS ∧ ¬ First g.1.1) then {false} else ∅
    else ∅
  unitless _ := False
  amount g _ _ := if g.2 = .reg barS ∨ g.2 = .reg exitS then 1 else NN
  payload g _ d :=
    if g.2 = .reg barS then barPay g.1.1 d
    else if g.2 = .dma hsS then sPts g.1.1 (tl g.1.1)
    else if g.2 = .dma hrS then rPts g.1.1 (tl (xp g.1.1))
    else iprop(emp)
  amount_pos g _ _ _ := by split; exacts [Nat.one_pos, NN_pos]

instance rd_payload_storable (g : GSem nD τ sig) (r : ℕ) (d : Bool) : BI.Storable (upEmb : UEmb _ 𝕄) ((rd tl).payload g r d) := by
  show BI.Storable upEmb (if g.2 = .reg barS then barPay g.1.1 d else if g.2 = .dma hsS then sPts g.1.1 (tl g.1.1)
    else if g.2 = .dma hrS then rPts g.1.1 (tl (xp g.1.1)) else iprop(emp))
  (repeat' split) <;> infer_instance

section Facts
variable (c : Dev nD)

theorem duties_bar : (rd tl).duties (barCell c) 0 = Finset.univ := by
  dsimp only [rd]; rw [if_pos ⟨rfl, rfl⟩, if_pos (.inl rfl)]
theorem duties_ex : (rd tl).duties (exCell c) 0 = Finset.univ := by
  dsimp only [rd]; rw [if_pos ⟨rfl, rfl⟩, if_pos (.inr rfl)]
theorem duties_hs (h : First c) : (rd tl).duties (hsCell c) 0 = {false} := by
  dsimp only [rd]; rw [if_pos ⟨rfl, rfl⟩, if_neg (by rintro (h | h) <;> cases h), if_pos (.inl ⟨rfl, h⟩)]
theorem duties_hr (h : ¬ First c) : (rd tl).duties (hrCell c) 0 = {false} := by
  dsimp only [rd]; rw [if_pos ⟨rfl, rfl⟩, if_neg (by rintro (h | h) <;> cases h), if_pos (.inr ⟨rfl, h⟩)]
theorem duties_hs_none (h : ¬ First c) : (rd tl).duties (hsCell c) 0 = ∅ := by
  dsimp only [rd]; rw [if_pos ⟨rfl, rfl⟩, if_neg (by rintro (h | h) <;> cases h), if_neg]
  rintro (h' | h'); exacts [h h'.2, hr_ne_hs h'.1.symm]
theorem duties_hr_none (h : First c) : (rd tl).duties (hrCell c) 0 = ∅ := by
  dsimp only [rd]; rw [if_pos ⟨rfl, rfl⟩, if_neg (by rintro (h | h) <;> cases h), if_neg]
  rintro (h' | h'); exacts [hr_ne_hs h'.1, h'.2 h]
theorem duties_later (g : GSem nD τ sig) : ∀ r, 1 ≤ r → (rd tl).duties g r = ∅ :=
  fun r hr => by dsimp only [rd]; rw [if_neg fun h => by omega]
theorem duties_none {g : GSem nD τ sig} (h : (rd tl).duties g 0 = ∅) : ∀ r, 0 ≤ r → (rd tl).duties g r = ∅ :=
  fun r _ => by rcases Nat.eq_zero_or_pos r with rfl | hr; exacts [h, duties_later tl g r hr]

theorem amount_bar (d : Bool) : (rd tl).amount (barCell c) 0 d = 1 := by dsimp only [rd]; exact if_pos (.inl rfl)
theorem amount_ex (d : Bool) : (rd tl).amount (exCell c) 0 d = 1 := by dsimp only [rd]; exact if_pos (.inr rfl)
theorem amount_hs (d : Bool) : (rd tl).amount (hsCell c) 0 d = NN := by dsimp only [rd]; exact if_neg (by rintro (h | h) <;> cases h)
theorem amount_hr (d : Bool) : (rd tl).amount (hrCell c) 0 d = NN := by dsimp only [rd]; exact if_neg (by rintro (h | h) <;> cases h)

theorem expect_bar : (rd tl).expect (barCell c) 0 = 2 := by
  unfold Schedule.expect Schedule.amountOf
  rw [duties_bar, Finset.sum_congr rfl fun d _ => amount_bar tl c d]; rfl
theorem expect_ex : (rd tl).expect (exCell c) 0 = 2 := by
  unfold Schedule.expect Schedule.amountOf
  rw [duties_ex, Finset.sum_congr rfl fun d _ => amount_ex tl c d]; rfl
theorem expect_hs (h : First c) : (rd tl).expect (hsCell c) 0 = NN := by
  unfold Schedule.expect Schedule.amountOf; rw [duties_hs tl c h, Finset.sum_singleton, amount_hs]
theorem expect_hr (h : ¬ First c) : (rd tl).expect (hrCell c) 0 = NN := by
  unfold Schedule.expect Schedule.amountOf; rw [duties_hr tl c h, Finset.sum_singleton, amount_hr]

theorem payload_bar (d : Bool) : (rd tl).payload (barCell c) 0 d = barPay c d := by dsimp only [rd]; exact if_pos rfl
theorem payload_ex (d : Bool) : (rd tl).payload (exCell c) 0 d = iprop(emp) := by
  dsimp only [rd]; rw [if_neg ex_ne_bar, if_neg (fun h => by cases h), if_neg (fun h => by cases h)]
theorem payload_hs (d : Bool) : (rd tl).payload (hsCell c) 0 d = sPts c (tl c) := by
  dsimp only [rd]; rw [if_neg hs_ne_bar, if_pos rfl]
theorem payload_hr (d : Bool) : (rd tl).payload (hrCell c) 0 d = rPts c (tl (xp c)) := by
  dsimp only [rd]; rw [if_neg hr_ne_bar, if_neg hr_ne_hs, if_pos rfl]

theorem rest_bar : bigSep ((rd tl).duties (barCell c) 0 \ ∅) (fun d => (rd tl).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_hs (h : First c) : bigSep ((rd tl).duties (hsCell c) 0 \ ∅) (fun d => (rd tl).payload (hsCell c) 0 d) = sPts c (tl c) := by
  rw [Finset.sdiff_empty, duties_hs tl c h, bigSep_singleton, payload_hs]
theorem rest_hr (h : ¬ First c) : bigSep ((rd tl).duties (hrCell c) 0 \ ∅) (fun d => (rd tl).payload (hrCell c) 0 d) = rPts c (tl (xp c)) := by
  rw [Finset.sdiff_empty, duties_hr tl c h, bigSep_singleton, payload_hr]

end Facts

/-! ## What each device owes; the levels -/

/-- The exit units, owed until the last point. -/
def Oex (c : Dev nD) : CellTallies nD τ sig Unit := tallyAt (exCell (yp c)) () 1 + tallyAt (exCell (xp c)) () 1
/-- Before the send: those and, on a first-half device, the state. -/
def Osend (c : Dev nD) : CellTallies nD τ sig Unit := Oex c + tallyAt (hrCell (xp c)) () (if First c then NN else 0)
/-- At launch: those and the two barrier units. -/
def O₀ (c : Dev nD) : CellTallies nD τ sig Unit := Osend c + tallyAt (barCell (yp c)) () 1 + tallyAt (barCell (xp c)) () 1

def L (g : GSem nD τ sig) : Finset Unit := if g.1.2 = .tc then {()} else ∅
/-- Barrier cells at 1, receive cells at 2, exit cells at 3, everything else at 0. -/
def lv (g : GSem nD τ sig) (_ : Unit) : ℕ :=
  if g.2 = .reg barS then 1 else if g.2 = .dma hrS then 2 else if g.2 = .reg exitS then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_hr (c : Dev nD) : lv (hrCell c) () = 2 := by unfold lv; rw [if_neg hr_ne_bar, if_pos rfl]
theorem lv_ex (c : Dev nD) : lv (exCell c) () = 3 := by
  unfold lv; rw [if_neg ex_ne_bar, if_neg (fun h => by cases h), if_pos rfl]

/-- Everything owed lies on cells above level `n`. -/
def Above (n : ℕ) (O : CellTallies nD τ sig Unit) : Prop := ∀ g u, 0 < O g u → g.1.2 = .tc ∧ n < lv g u

theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.tally {n : ℕ} {c : Dev nD} {sm : SemLoc sig} (k : ℕ) (h : n < lv ((c : Thread nD τ), sm) ()) :
    Above n (tallyAt ((c : Thread nD τ), sm) () k) := fun g u hg => by
  rw [tallyAt_apply] at hg
  by_cases h' : g = ((c : Thread nD τ), sm) ∧ u = ()
  · rw [h'.1]; exact ⟨rfl, h⟩
  · rw [if_neg h'] at hg; exact absurd hg (Nat.lt_irrefl 0)
theorem above_Oex (c : Dev nD) : Above 2 (Oex c) := by
  unfold Oex
  exact .add (.tally _ (by rw [lv_ex]; decide)) (.tally _ (by rw [lv_ex]; decide))
theorem Above.mono {n n' : ℕ} {O : CellTallies nD τ sig Unit} (h : Above n O) (hn : n' ≤ n) : Above n' O :=
  fun g u hg => ⟨(h g u hg).1, lt_of_le_of_lt hn (h g u hg).2⟩
theorem above_Osend (c : Dev nD) : Above 1 (Osend c) := by
  unfold Osend
  exact .add ((above_Oex c).mono (by decide)) (.tally _ (by rw [lv_hr]; decide))
theorem above_O₀ (c : Dev nD) : Above 0 (O₀ c) := by
  unfold O₀
  exact .add (.add ((above_Osend c).mono (by decide)) (.tally _ (by rw [lv_bar]; decide))) (.tally _ (by rw [lv_bar]; decide))
theorem above_zero (n : ℕ) : Above n 0 := fun g u hg => absurd hg (Nat.lt_irrefl 0)

omit [FloatOps F] in
/-- A wait on a cell at level at most `n` by a device that owes only above `n`. -/
theorem mayWait_of {n : ℕ} {c : Dev nD} {sm : SemLoc sig} {O : CellTallies nD τ sig Unit} (hO : Above n O)
    (hn : lv ((c : Thread nD τ), sm) () ≤ n) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

end Cert.KernelIdeal.Scan
-- ==== Proof.KernelIdealMem.lean ====
/- Loads and stores through memrefs that are owned whole, and the rows of the output buffer one after the other. -/
module

public import proofs.«01_k».proof.Proof.KernelIdealSched

@[expose] public section

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The part of a block's contents that lies in a rectangle. -/
abbrev cut {s : Shape} {α : Type} (X : s.Idx → α) (r : Rect s) : r.shape.Idx → α := fun x => X (r.emb x)

theorem unit_zero_emb {s : Shape} {off : Fin s.rank → Nat} (h : off = fun _ => 0) (inb : ∀ a, off a + s.size a ≤ s.size a) (x : s.Idx) :
    (Rect.unit off s.size inb).emb x = x := by
  subst h; funext a; exact Fin.ext (by show 0 + 1 * (x a).val = (x a).val; omega)

theorem cut_zero {s : Shape} {α : Type} (X : s.Idx → α) {off : Fin s.rank → Nat} (h : off = fun _ => 0)
    (inb : ∀ a, off a + s.size a ≤ s.size a) : cut X (Rect.unit off s.size inb) = X :=
  funext fun x => congrArg X (unit_zero_emb h inb x)

theorem overlay_zero {s : Shape} {α : Type} (X G : s.Idx → α) {off : Fin s.rank → Nat} (h : off = fun _ => 0)
    (inb : ∀ a, off a + s.size a ≤ s.size a) : (Rect.unit off s.size inb).overlay X G = G :=
  funext fun x => by
    conv_lhs => rw [← unit_zero_emb h inb x]
    exact Rect.overlay_emb _ _ _ _

/-- A load from an owned memref. -/
theorem wp_load_owned {α : Type} {Q : α → sProp 𝕄} (c : Dev nD) {sp : CoreSpace} {s : Shape} {e : EltTy}
    {m : Memref sig .tc sp s e} {r : Rect s} {hl : m.view.LoadsAt r.toLoadRect}
    {k : (r.shape.Idx → Elt F e) → Prog (TpuEff nD τ sig (Elt F) Λ₀ .tc) α} (X : s.Idx → Elt F e) :
    owns (c : Thread nD τ) m fullShare X
      ⊢ iprop((owns (c : Thread nD τ) m fullShare X -∗ wp frame (wpE (defs₀ (F := F)) 𝒱₀ (c : Thread nD τ) none) Set.univ (k (cut X r)) Q)
        -∗ wp frame (wpE (defs₀ (F := F)) 𝒱₀ (c : Thread nD τ) none) Set.univ (.op (.load m r.toLoadRect hl) k) Q) := by
  unfold owns
  iintro ⟨%f, %hf, H⟩ Hk
  iapply (wp_load 𝒱₀ (c : Thread nD τ) none Set.univ (m := m) (S := m.view.set) (f := f) (m.view.setOn_subset_set _)) $$ H
  iintro H
  rw [show m.view.readAt (Elt F) r.toLoadRect f = cut X r from by rw [← hf]; rfl]
  iapply Hk
  iexists f
  isplitr; · ipureintro; exact hf
  iexact H

/-- A store to an owned memref. -/
theorem wp_store_owned {α : Type} {Q : α → sProp 𝕄} (c : Dev nD) {sp : CoreSpace} {s : Shape} {e : EltTy}
    {m : Memref sig .tc sp s e} {r : Rect s} {w : r.shape.Idx → Elt F e} {hx : (m.access r).Stores Finset.univ}
    {hm : Finset.univ = Finset.univ ∨ ∀ a, r.stride a = 1} {k : PUnit → Prog (TpuEff nD τ sig (Elt F) Λ₀ .tc) α} (X : s.Idx → Elt F e) :
    owns (c : Thread nD τ) m fullShare X
      ⊢ iprop((owns (c : Thread nD τ) m fullShare (r.overlay X w) -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  unfold owns
  iintro ⟨%f, %hf, H⟩ Hk
  iapply (wp_store 𝒱₀ (c : Thread nD τ) none Set.univ (m := m) (r := r) (S := m.view.set) (f := f) (View.set_slice_subset _ r)) $$ H
  iintro H
  iapply Hk
  iexists ((m.access r).write (Elt F) f w Finset.univ)
  isplitr
  · ipureintro
    funext j
    by_cases hj : j ∈ r.set
    · obtain ⟨i, rfl⟩ := r.exists_idx_of_mem hj
      exact (View.read_slice_write_emb _ _ _ (Finset.mem_univ i)).trans (Rect.overlay_emb r X w i).symm
    · rw [Rect.overlay_of_not_mem _ _ _ hj, ← hf]
      exact View.read_slice_write_of_not_mem _ _ _ _ (by rw [Rect.map_emb_univ]; exact hj)
  iexact H

end Cert.KernelIdeal.Scan
-- ==== Proof.KernelIdealRows.lean ====
/- The rows of the output buffer one after the other, and the chunk of one grid point. -/
module

public import proofs.«01_k».proof.Proof.KernelIdealMem
public import Idealize.ShloMosaic.Lib.Pipeline.Value

@[expose] public section

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The output block of a chunk -/

/-- The place in its row of an index of the block. -/
def rowIdx (j : S4x32x512.Idx) : S4x1x512.Idx := fun a => ⟨(![(j 0).val, 0, (j 2).val] : Fin 3 → ℕ) a, by
  fin_cases a
  · exact (j 0).isLt
  · exact Nat.one_pos
  · exact (j 2).isLt⟩

/-- The outputs of a chunk that starts from state `h`: row `s` is the output of the state after step `s`. -/
def yBlk (a : FVec F S16x512 .bf16) (X : FVec F S4x32x512 .bf16) (B C : FVec F S4x32x16 .bf16) (h : FVec F S4x16x512 .f32) :
    FVec F S4x32x512 .f32 :=
  fun j => yOf (bcol C (j 1)) (steps a X B h ((j 1).val + 1)) (rowIdx j)

/-- Row `r` of a buffer of outputs. -/
abbrev rowRect (r : Fin 32) : Rect S4x32x512 := Rect.unit (s := S4x32x512) ![0, r.val, 0] S4x1x512.size (inb_row r)

theorem mem_rowRect (r : Fin 32) (j : S4x32x512.Idx) : j ∈ (rowRect r).set ↔ (j 1).val = r.val := by
  rw [Rect.mem_set_unit]
  constructor
  · intro h
    have h1 := h 1
    have e1 : (![0, r.val, 0] : Fin 3 → ℕ) 1 = r.val := rfl
    have e2 : S4x1x512.size 1 = 1 := rfl
    change r.val ≤ (j 1).val ∧ (j 1).val < r.val + 1 at h1
    omega
  · intro h a
    fin_cases a
    · exact ⟨Nat.zero_le _, by have := (j 0).isLt; change (j 0).val < 0 + 4; change (j 0).val < 4 at this; omega⟩
    · change r.val ≤ (j 1).val ∧ (j 1).val < r.val + 1; omega
    · exact ⟨Nat.zero_le _, by have := (j 2).isLt; change (j 2).val < 0 + 512; change (j 2).val < 512 at this; omega⟩

/-- A buffer whose first `n` rows hold `G` and whose other rows are still `X`. -/
def yFill (n : ℕ) (G X : FVec F S4x32x512 .f32) : FVec F S4x32x512 .f32 := fun j => if (j 1).val < n then G j else X j

theorem yFill_zero (G X : FVec F S4x32x512 .f32) : yFill 0 G X = X := funext fun j => if_neg (Nat.not_lt_zero _)
theorem yFill_all (G X : FVec F S4x32x512 .f32) : yFill 32 G X = G := funext fun j => if_pos (j 1).isLt

theorem yFill_succ (r : Fin 32) (G X : FVec F S4x32x512 .f32) :
    (rowRect r).overlay (yFill r.val G X) (cut G (rowRect r)) = yFill (r.val + 1) G X := by
  funext j
  by_cases hj : j ∈ (rowRect r).set
  · obtain ⟨x, rfl⟩ := (rowRect r).exists_idx_of_mem hj
    have h1 := (mem_rowRect r _).mp hj
    refine (Rect.overlay_emb _ _ _ _).trans (Eq.symm ?_)
    exact if_pos (by rw [h1]; exact Nat.lt_succ_self _)
  · rw [Rect.overlay_of_not_mem _ _ _ hj]
    have h1 : (j 1).val ≠ r.val := fun h => hj ((mem_rowRect r j).mpr h)
    unfold yFill
    by_cases h : (j 1).val < r.val
    · rw [if_pos h, if_pos (by omega)]
    · rw [if_neg h, if_neg (by omega)]

theorem yBlk_row (a : FVec F S16x512 .bf16) (X : FVec F S4x32x512 .bf16) (B C : FVec F S4x32x16 .bf16) (h : FVec F S4x16x512 .f32) (r : Fin 32) :
    yOf (bcol C r) (steps a X B h (r.val + 1)) = cut (yBlk a X B C h) (rowRect r) := by
  funext x
  have e0 : (rowRect r).emb x 1 = r := Fin.ext (by
    have := (x 1).isLt; change (x 1).val < 1 at this
    change r.val + 1 * (x 1).val = r.val; omega)
  have e1 : rowIdx ((rowRect r).emb x) = x := by
    funext a
    fin_cases a
    · exact Fin.ext (by change 0 + 1 * (x 0).val = (x 0).val; omega)
    · exact Fin.ext (by have := (x 1).isLt; change (x 1).val < 1 at this; change 0 = (x 1).val; omega)
    · exact Fin.ext (by change 0 + 1 * (x 2).val = (x 2).val; omega)
  change _ = yOf (bcol C ((rowRect r).emb x 1)) (steps a X B h (((rowRect r).emb x 1).val + 1)) _
  rw [e1, e0]

/-- The values a pair of rows starts from, at step `n` of a chunk that started from `h`. -/
def rowAt (a : FVec F S16x512 .bf16) (X : FVec F S4x32x512 .bf16) (B C : FVec F S4x32x16 .bf16) (h : FVec F S4x16x512 .f32) (n : ℕ) : Row F :=
  ⟨bcol B (Fin.ofNat 32 n), bcol C (Fin.ofNat 32 n), mulf (steps a X B h n) (decay a), xrow X (Fin.ofNat 32 n)⟩

/-! ## The walk over the rows -/

theorem wp_storeRow (c : Dev nD) (arg11 : Memref sig .tc .vmem S4x32x512 .f32) (r : Fin 32) (n : ℕ) (hn : r.val = n) (w : FVec F S4x1x512 .f32)
    (G X : FVec F S4x32x512 .f32) (hw : w = cut G (rowRect r)) {α : Type} (K : PUnit → Prog (TpuEff nD τ sig (Elt F) Λ₀ .tc) α) (Q : α → sProp 𝕄) :
    owns (c : Thread nD τ) arg11 fullShare (yFill n G X)
      ⊢ iprop((owns (c : Thread nD τ) arg11 fullShare (yFill (n + 1) G X) -∗ wp frame (wpE (defs₀ (F := F)) 𝒱₀ (c : Thread nD τ) none) Set.univ (K ⟨⟩) Q)
        -∗ wp frame (wpE (defs₀ (F := F)) 𝒱₀ (c : Thread nD τ) none) Set.univ (storeRow arg11 r w >>= K) Q) := by
  subst hw hn
  unfold storeRow
  simp only [Prog.lift, Prog.bind_op, Prog.bind_ret, Prog.pure_eq_ret]
  iintro H Hk
  iapply (wp_load_owned c (yFill r.val G X)) $$ H
  iintro H
  iapply (wp_store_owned c (yFill r.val G X)) $$ H
  rw [yFill_succ]
  iintro H
  iapply Hk $$ H

theorem wp_rowsPart (c : Dev nD) (arg11 : Memref sig .tc .vmem S4x32x512 .f32) (a : FVec F S16x512 .bf16) (X : FVec F S4x32x512 .bf16)
    (B C : FVec F S4x32x16 .bf16) (h : FVec F S4x16x512 .f32) (k : ℕ) (hk : k ≤ 15) (Y : FVec F S4x32x512 .f32)
    (K : Row F → BProg F) (Q : PUnit → sProp 𝕄) :
    owns (c : Thread nD τ) arg11 fullShare (yFill (2 * k) (yBlk a X B C h) Y)
      ⊢ iprop((owns (c : Thread nD τ) arg11 fullShare (yFill (2 * (k + 1)) (yBlk a X B C h) Y)
          -∗ wp frame (wpE (defs₀ (F := F)) 𝒱₀ (c : Thread nD τ) none) Set.univ (K (rowAt a X B C h (2 * (k + 1)))) Q)
        -∗ wp frame (wpE (defs₀ (F := F)) 𝒱₀ (c : Thread nD τ) none) Set.univ (rowsPart arg11 a X B C k (rowAt a X B C h (2 * k)) >>= K) Q) := by
  have v0 : (Fin.ofNat 32 (2 * k)).val = 2 * k := Nat.mod_eq_of_lt (by omega)
  have v1 : (Fin.ofNat 32 (2 * k + 1)).val = 2 * k + 1 := Nat.mod_eq_of_lt (by omega)
  have r0 := yBlk_row a X B C h (Fin.ofNat 32 (2 * k))
  have r1 := yBlk_row a X B C h (Fin.ofNat 32 (2 * k + 1))
  rw [v0] at r0
  rw [v1] at r1
  unfold rowsPart
  simp only [bind_assoc, pure_bind]
  iintro H Hk
  iapply (wp_storeRow c arg11 (Fin.ofNat 32 (2 * k)) (2 * k) v0 _ (yBlk a X B C h) Y r0) $$ H
  iintro H
  iapply (wp_storeRow c arg11 (Fin.ofNat 32 (2 * k + 1)) (2 * k + 1) v1 _ (yBlk a X B C h) Y r1) $$ H
  iintro H
  iapply Hk $$ H

theorem wp_rowsLoop (c : Dev nD) (arg11 : Memref sig .tc .vmem S4x32x512 .f32) (a : FVec F S16x512 .bf16) (X : FVec F S4x32x512 .bf16)
    (B C : FVec F S4x32x16 .bf16) (h : FVec F S4x16x512 .f32) (Y : FVec F S4x32x512 .f32)
    (K : Row F → BProg F) (Q : PUnit → sProp 𝕄) : ∀ (n k : ℕ), n + k ≤ 16 →
    owns (c : Thread nD τ) arg11 fullShare (yFill (2 * k) (yBlk a X B C h) Y)
      ⊢ iprop((owns (c : Thread nD τ) arg11 fullShare (yFill (2 * (n + k)) (yBlk a X B C h) Y)
          -∗ wp frame (wpE (defs₀ (F := F)) 𝒱₀ (c : Thread nD τ) none) Set.univ (K (rowAt a X B C h (2 * (n + k)))) Q)
        -∗ wp frame (wpE (defs₀ (F := F)) 𝒱₀ (c : Thread nD τ) none) Set.univ (rowsLoop arg11 a X B C K n k (rowAt a X B C h (2 * k))) Q)
  | 0, k, _ => by
    rw [Nat.zero_add]
    iintro H Hk
    iapply Hk $$ H
  | n + 1, k, hn => by
    rw [show n + 1 + k = n + (k + 1) by omega]
    unfold rowsLoop
    iintro H Hk
    iapply (wp_rowsPart c arg11 a X B C h k (by omega) Y) $$ H
    iintro H
    iapply (wp_rowsLoop c arg11 a X B C h Y K Q n (k + 1) (by omega)) $$ H
    iexact Hk

section Chunk
variable (c : Dev nD) (i : grid0.Coords) (arg1 : Memref sig .tc .vmem S8x32x512 .bf16) (arg3 arg4 : Memref sig .tc .vmem S8x32x16 .bf16)
    (arg7 : Memref sig .tc .vmem S2x4x16x32x512 .bf16) (harg7 : arg7.IsWhole)
    (arg10 : Memref sig .tc .vmem S4x16x512 .f32) (arg11 : Memref sig .tc .vmem S4x32x512 .f32) (d0 : Dev nD)

theorem zero3 : (![0, 0, 0] : Fin 3 → ℕ) = fun _ => 0 := by funext a; fin_cases a <;> rfl

/-- The rectangle of the result that grid point `i` writes. -/
abbrev outRect : Rect S2x4x16x32x512 := Rect.unit (s := S2x4x16x32x512) (k0_off5 i d0) S1x4x1x32x512.size (k0_off5_inb i d0)

theorem wp_lastRows (a : FVec F S16x512 .bf16) (X : FVec F S4x32x512 .bf16) (B C : FVec F S4x32x16 .bf16) (h : FVec F S4x16x512 .f32)
    (Y : FVec F S4x32x512 .f32) (h' : FVec F S4x16x512 .f32) (O : S2x4x16x32x512.Idx → Elt F .bf16) (K : BProg F) (Q : PUnit → sProp 𝕄) :
    iprop(owns (c : Thread nD τ) arg11 fullShare (yFill 30 (yBlk a X B C h) Y) ∗ owns (c : Thread nD τ) arg10 fullShare h'
      ∗ owns (c : Thread nD τ) arg7 fullShare O)
      ⊢ iprop((owns (c : Thread nD τ) arg11 fullShare (yBlk a X B C h) ∗ owns (c : Thread nD τ) arg10 fullShare (steps a X B h 32)
          ∗ owns (c : Thread nD τ) arg7 fullShare ((outRect i d0).overlay O (k0_pay1 (yBlk a X B C h)))
          -∗ wp frame (wpE (defs₀ (F := F)) 𝒱₀ (c : Thread nD τ) none) Set.univ K Q)
        -∗ wp frame (wpE (defs₀ (F := F)) 𝒱₀ (c : Thread nD τ) none) Set.univ
          (lastRows i arg7 harg7 arg10 arg11 d0 a X B C K (rowAt a X B C h 30)) Q) := by
  unfold lastRows
  simp only [Prog.lift, Prog.bind_op, Prog.bind_ret, Prog.pure_eq_ret]
  iintro ⟨H, H10, H7⟩ Hk
  iapply (wp_storeRow c arg11 30 30 rfl _ (yBlk a X B C h) Y (yBlk_row a X B C h 30)) $$ H
  iintro H
  iapply (wp_storeRow c arg11 31 31 rfl _ (yBlk a X B C h) Y (yBlk_row a X B C h 31)) $$ H
  rw [yFill_all]
  iintro H
  iapply (wp_load_owned c h') $$ H10
  iintro H10
  iapply (wp_store_owned c h') $$ H10
  rw [overlay_zero _ _ zero3, shapeCast_self]
  iintro H10
  iapply (wp_load_owned c (yBlk a X B C h)) $$ H
  rw [cut_zero _ zero3]
  iintro H
  iapply (wp_load_owned c O) $$ H7
  iintro H7
  iapply (wp_store_owned c O) $$ H7
  iintro H7
  iapply Hk
  isplitl [H]; · iexact H
  isplitl [H10]; · iexact H10
  iexact H7

/-- One grid point after the hand-over: from state `h` on the blocks `x`, `b`, `cc`. -/
theorem wp_chunk (v9 : Vec F S512x16 .bf16) (x : Vec F S8x32x512 .bf16) (b cc : Vec F S8x32x16 .bf16) (h : FVec F S4x16x512 .f32)
    (Y : FVec F S4x32x512 .f32) (O : S2x4x16x32x512.Idx → Elt F .bf16) (X : FVec F S4x32x512 .bf16) (B C : FVec F S4x32x16 .bf16)
    (hX : X = k0_pay31 (cut x (Rect.unit (s := S8x32x512) (k0_off3 d0) S4x32x512.size (k0_off3_inb d0))))
    (hB : B = k0_pay32 (cut b (Rect.unit (s := S8x32x16) (k0_off4 d0) S4x32x16.size (k0_off4_inb d0))))
    (hC : C = k0_pay33 (cut cc (Rect.unit (s := S8x32x16) (k0_off4 d0) S4x32x16.size (k0_off4_inb d0))))
    (K : BProg F) (Q : PUnit → sProp 𝕄) :
    iprop(owns (c : Thread nD τ) arg1 fullShare x ∗ owns (c : Thread nD τ) arg3 fullShare b ∗ owns (c : Thread nD τ) arg4 fullShare cc
      ∗ owns (c : Thread nD τ) arg11 fullShare Y ∗ owns (c : Thread nD τ) arg10 fullShare h ∗ owns (c : Thread nD τ) arg7 fullShare O)
      ⊢ iprop((owns (c : Thread nD τ) arg1 fullShare x ∗ owns (c : Thread nD τ) arg3 fullShare b ∗ owns (c : Thread nD τ) arg4 fullShare cc
          ∗ owns (c : Thread nD τ) arg11 fullShare (yBlk (k0_pay29 v9) X B C h)
          ∗ owns (c : Thread nD τ) arg10 fullShare (steps (k0_pay29 v9) X B h 32)
          ∗ owns (c : Thread nD τ) arg7 fullShare ((outRect i d0).overlay O (k0_pay1 (yBlk (k0_pay29 v9) X B C h)))
          -∗ wp frame (wpE (defs₀ (F := F)) 𝒱₀ (c : Thread nD τ) none) Set.univ K Q)
        -∗ wp frame (wpE (defs₀ (F := F)) 𝒱₀ (c : Thread nD τ) none) Set.univ
          (chunk i arg1 arg3 arg4 arg7 harg7 arg10 arg11 d0 v9 K) Q) := by
  subst hX hB hC
  unfold chunk
  simp only [Prog.lift, Prog.bind_op, Prog.bind_ret, Prog.pure_eq_ret]
  iintro ⟨H1, H3, H4, H11, H10, H7⟩ Hk
  iapply (wp_load_owned c x) $$ H1
  iintro H1
  iapply (wp_load_owned c b) $$ H3
  iintro H3
  iapply (wp_load_owned c cc) $$ H4
  iintro H4
  iapply (wp_load_owned c h) $$ H10
  rw [cut_zero _ zero3]
  iintro H10
  generalize cut x (Rect.unit (s := S8x32x512) (k0_off3 d0) S4x32x512.size (k0_off3_inb d0)) = v17
  generalize cut b (Rect.unit (s := S8x32x16) (k0_off4 d0) S4x32x16.size (k0_off4_inb d0)) = v20
  generalize cut cc (Rect.unit (s := S8x32x16) (k0_off4 d0) S4x32x16.size (k0_off4_inb d0)) = v23
  have e : (⟨k0_pay34 v20, k0_pay35 v23, k0_pay36 v9 h, k0_pay37 v17⟩ : Row F)
      = rowAt (k0_pay29 v9) (k0_pay31 v17) (k0_pay32 v20) (k0_pay33 v23) h (2 * 0) := rfl
  rw [e]
  iapply (wp_rowsLoop c arg11 (k0_pay29 v9) (k0_pay31 v17) (k0_pay32 v20) (k0_pay33 v23) h Y _ Q 15 0 (by decide)) $$ [H11]
  · rw [yFill_zero]; iexact H11
  iintro H11
  iapply (wp_lastRows c i arg7 harg7 arg10 arg11 d0 (k0_pay29 v9) (k0_pay31 v17) (k0_pay32 v20) (k0_pay33 v23) h Y h O K Q) $$ [H11 H10 H7]
  · isplitl [H11]; · iexact H11
    isplitl [H10]; · iexact H10
    iexact H7
  iintro ⟨H11, H10, H7⟩
  iapply Hk
  isplitl [H1]; · iexact H1
  isplitl [H3]; · iexact H3
  isplitl [H4]; · iexact H4
  isplitl [H11]; · iexact H11
  isplitl [H10]; · iexact H10
  iexact H7

end Chunk

end Cert.KernelIdeal.Scan
-- ==== Proof.KernelIdealData.lean ====
/- The contents of the kernel's buffers point by point, and what holds between two grid points. -/
module

public import proofs.«01_k».proof.Proof.KernelIdealRows
public import proofs.«01_k».proof.Proof.Gen.KernelIdeal.Frame

@[expose] public section

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg cellOf)

variable {F : FTy → Type} [FloatOps F]

local notation "𝕄" => MT nD τ sig Unit (Elt F) ℕ UU ℕ

variable (m : (ℓ : Loc nD τ sig) → Buf (Elt F) ℓ) (c : Dev nD)

/-! ## Contents -/

/-- Point `n` of the grid. -/
def pt (n : ℕ) : Fin grid0.N := ⟨n % 16, by rw [N_0]; exact Nat.mod_lt _ (by decide)⟩

theorem pt_val (t : Fin grid0.N) : pt t.val = t :=
  Fin.ext (Nat.mod_eq_of_lt (by have := t.isLt; have := N_0; omega))

theorem cond1_iff : ∀ t : Fin grid0.N, k0_cond1 (grid0.coords t) = 1#1 ↔ t.val = 0 := by decide +kernel
theorem cond4_iff : ∀ t : Fin grid0.N, k0_cond4 (grid0.coords t) = 1#1 ↔ t.val = 15 := by decide +kernel

/-- The staged blocks: of `x`, of `A` (whole), of `B`, of `C`, and the last chunks of `x` and `B`. -/
def blkX (t : Fin grid0.N) : Vec F S8x32x512 .bf16 := iblk m c 0 t
def blkA (t : Fin grid0.N) : Vec F S512x16 .bf16 := iblk m c 1 t
def blkB (t : Fin grid0.N) : Vec F S8x32x16 .bf16 := iblk m c 2 t
def blkC (t : Fin grid0.N) : Vec F S8x32x16 .bf16 := iblk m c 3 t
def tailX (t : Fin grid0.N) : Vec F S8x32x512 .bf16 := iblk m c 4 t
def tailB (t : Fin grid0.N) : Vec F S8x32x16 .bf16 := iblk m c 5 t

/-- `exp(A)`, transposed. -/
def dec : FVec F S16x512 .bf16 := k0_pay29 (blkA m c (pt 0))

theorem blkA_eq (t : Fin grid0.N) : blkA m c t = blkA m c (pt 0) := rfl

/-- The device's half of the batches of a chunk of `x`, `B`, `C`. -/
def xh (t : Fin grid0.N) : FVec F S4x32x512 .bf16 :=
  k0_pay31 (cut (blkX m c t) (Rect.unit (s := S8x32x512) (k0_off3 c) S4x32x512.size (k0_off3_inb c)))
def bh (t : Fin grid0.N) : FVec F S4x32x16 .bf16 :=
  k0_pay32 (cut (blkB m c t) (Rect.unit (s := S8x32x16) (k0_off4 c) S4x32x16.size (k0_off4_inb c)))
def ch (t : Fin grid0.N) : FVec F S4x32x16 .bf16 :=
  k0_pay33 (cut (blkC m c t) (Rect.unit (s := S8x32x16) (k0_off4 c) S4x32x16.size (k0_off4_inb c)))

theorem cond1_zero : k0_cond1 (grid0.coords (pt 0)) = 1#1 := (cond1_iff _).mpr rfl

/-- The state that a device sends or keeps for sending: 32 steps from zero over its last chunk. -/
def tl (c : Dev nD) : St F :=
  warm (dec m c)
    (cut (tailX m c (pt 0)) (Rect.unit (s := S8x32x512) (k0_off1 c) S4x32x512.size (k0_off1_inb (grid0.coords (pt 0)) c cond1_zero)))
    (cut (tailB m c (pt 0)) (Rect.unit (s := S8x32x16) (k0_off2 c) S4x32x16.size (k0_off2_inb (grid0.coords (pt 0)) c cond1_zero)))

/-- The state before chunk `n`. -/
def carry : ℕ → St F
  | 0 => if First c then zeroState else tl m (xp c)
  | n + 1 => steps (dec m c) (xh m c (pt n)) (bh m c (pt n)) (carry n) 32

/-- The outputs of chunk `t`. -/
def yb (t : Fin grid0.N) : FVec F S4x32x512 .f32 := yBlk (dec m c) (xh m c t) (bh m c t) (ch m c t) (carry m c t.val)

theorem carry_succ (t : Fin grid0.N) : carry m c (t.val + 1) = steps (dec m c) (xh m c t) (bh m c t) (carry m c t.val) 32 := by
  rw [show carry m c (t.val + 1) = steps (dec m c) (xh m c (pt t.val)) (bh m c (pt t.val)) (carry m c t.val) 32 from rfl, pt_val]

theorem isSecond_first : ∀ c : Dev nD, First c → isSecond c = 0#1 := by decide +kernel
theorem isSecond_second : ∀ c : Dev nD, ¬ First c → isSecond c = 1#1 := by decide +kernel

theorem pay30_first (h : First c) (f : St F) : k0_pay30 (isSecond c) f (Scalar.ofBits .f32 0x00000000#32) = zeroState := by
  unfold k0_pay30; rw [isSecond_first c h]; exact shapeCast_self _ _
theorem pay30_second (h : ¬ First c) (f : St F) : k0_pay30 (isSecond c) f (Scalar.ofBits .f32 0x00000000#32) = f := by
  unfold k0_pay30; rw [isSecond_second c h]; exact shapeCast_self _ _

/-! ## The result buffer -/

/-- Where an index of the result lies in the block that is stored for its chunk. -/
def outIdx (j : S2x4x16x32x512.Idx) : S1x4x1x32x512.Idx := fun a => ⟨(![0, (j 1).val, 0, (j 3).val, (j 4).val] : Fin 5 → ℕ) a, by
  fin_cases a
  · exact Nat.one_pos
  · exact (j 1).isLt
  · exact Nat.one_pos
  · exact (j 3).isLt
  · exact (j 4).isLt⟩

/-- The device's outputs, chunk by chunk. -/
def outFull (j : S2x4x16x32x512.Idx) : Elt F .bf16 := k0_pay1 (yb m c (pt (j 2).val)) (outIdx j)

/-- The first `n` chunks of the device's own half of the result are written. -/
def Good (n : ℕ) (X : S2x4x16x32x512.Idx → Elt F .bf16) : Prop :=
  ∀ j : S2x4x16x32x512.Idx, (j 0).val = c.val % 2 → (j 2).val < n → X j = outFull m c j

theorem off5_eq (t : Fin grid0.N) : k0_off5 (grid0.coords t) c = ![c.val % 2, 0, t.val, 0, 0] :=
  (by decide +kernel : ∀ (t : Fin grid0.N) (c : Dev nD), k0_off5 (grid0.coords t) c = ![c.val % 2, 0, t.val, 0, 0]) t c

theorem mem_outRect (t : Fin grid0.N) (j : S2x4x16x32x512.Idx) :
    j ∈ (outRect (grid0.coords t) c).set ↔ (j 0).val = c.val % 2 ∧ (j 2).val = t.val := by
  rw [Rect.mem_set_unit, off5_eq c t]
  constructor
  · intro h
    have h0 := h 0
    have h2 := h 2
    change c.val % 2 ≤ (j 0).val ∧ (j 0).val < c.val % 2 + 1 at h0
    change t.val ≤ (j 2).val ∧ (j 2).val < t.val + 1 at h2
    omega
  · rintro ⟨h0, h2⟩ a
    fin_cases a
    · change c.val % 2 ≤ (j 0).val ∧ (j 0).val < c.val % 2 + 1; omega
    · exact ⟨Nat.zero_le _, by change (j 1).val < 0 + 4; have := (j 1).isLt; change (j 1).val < 4 at this; omega⟩
    · change t.val ≤ (j 2).val ∧ (j 2).val < t.val + 1; omega
    · exact ⟨Nat.zero_le _, by change (j 3).val < 0 + 32; have := (j 3).isLt; change (j 3).val < 32 at this; omega⟩
    · exact ⟨Nat.zero_le _, by change (j 4).val < 0 + 512; have := (j 4).isLt; change (j 4).val < 512 at this; omega⟩

theorem outIdx_emb (t : Fin grid0.N) (x : (outRect (grid0.coords t) c).shape.Idx) : outIdx ((outRect (grid0.coords t) c).emb x) = x := by
  funext a
  refine Fin.ext ?_
  have hx := (x a).isLt
  have he : ((outRect (grid0.coords t) c).emb x a).val = (![c.val % 2, 0, t.val, 0, 0] : Fin 5 → ℕ) a + 1 * (x a).val := by
    rw [← off5_eq c t]; rfl
  fin_cases a
  · change (x 0).val < 1 at hx; change 0 = (x 0).val; omega
  · change ((outRect (grid0.coords t) c).emb x 1).val = (x 1).val; refine he.trans ?_; change 0 + 1 * (x 1).val = _; omega
  · change (x 2).val < 1 at hx; change 0 = (x 2).val; omega
  · change ((outRect (grid0.coords t) c).emb x 3).val = (x 3).val; refine he.trans ?_; change 0 + 1 * (x 3).val = _; omega
  · change ((outRect (grid0.coords t) c).emb x 4).val = (x 4).val; refine he.trans ?_; change 0 + 1 * (x 4).val = _; omega

/-- The store of chunk `t` completes it. -/
theorem good_succ (t : Fin grid0.N) (Y : S2x4x16x32x512.Idx → Elt F .bf16) (h : Good m c t.val Y) :
    Good m c (t.val + 1) ((outRect (grid0.coords t) c).overlay Y (k0_pay1 (yb m c t))) := fun j h0 h2 => by
  by_cases hj : j ∈ (outRect (grid0.coords t) c).set
  · have hm := (mem_outRect c t j).mp hj
    obtain ⟨x, rfl⟩ := (outRect (grid0.coords t) c).exists_idx_of_mem hj
    refine (Rect.overlay_emb _ _ _ x).trans ?_
    unfold outFull
    have e : pt ((outRect (grid0.coords t) c).emb x 2).val = t := by
      rw [show ((outRect (grid0.coords t) c).emb x 2).val = t.val from hm.2, pt_val]
    have e' := outIdx_emb c t x
    exact (congrArg₂ (fun t x => k0_pay1 (yb m c t) x) e e').symm
  · rw [Rect.overlay_of_not_mem _ _ _ hj]
    refine h j h0 ?_
    rcases Nat.lt_succ_iff_lt_or_eq.mp h2 with h3 | h3
    · exact h3
    · exact absurd ((mem_outRect c t j).mpr ⟨h0, h3⟩) hj

/-! ## What holds between two points -/

/-- The cells' records that the device's walk opens. -/
def invs (K : GSem nD τ sig → ℕ) : sProp 𝕄 :=
  iprop(cellInv ER (rd (tl m)) (K (barCell c)) (barCell c) ∗ cellInv ER (rd (tl m)) (K (hsCell c)) (hsCell c)
    ∗ cellInv ER (rd (tl m)) (K (hrCell c)) (hrCell c) ∗ cellInv ER (rd (tl m)) (K (exCell c)) (exCell c)
    ∗ cellInv ER (rd (tl m)) (K (barCell (xp c))) (barCell (xp c)) ∗ cellInv ER (rd (tl m)) (K (barCell (yp c))) (barCell (yp c))
    ∗ cellInv ER (rd (tl m)) (K (hrCell (xp c))) (hrCell (xp c))
    ∗ cellInv ER (rd (tl m)) (K (exCell (xp c))) (exCell (xp c)) ∗ cellInv ER (rd (tl m)) (K (exCell (yp c))) (exCell (yp c)))

instance invs_persistent (K : GSem nD τ sig → ℕ) : BI.Persistent (invs m c K) := by unfold invs; infer_instance

/-- The right to pay the two exit units, and what the wait for one's own takes. -/
def exitToks : sProp 𝕄 :=
  iprop(dutyTok ER (exCell (xp c)) 0 true ∗ dutyTok ER (exCell (yp c)) 0 false ∗ atPos ER (exCell c) 0 ∅ 0 ∗ cred (tallyAt (exCell c) () 2))

/-- What the hand-over at the first point takes. -/
def entryToks : sProp 𝕄 :=
  iprop(dutyTok ER (barCell (xp c)) 0 true ∗ dutyTok ER (barCell (yp c)) 0 false ∗ dutyTok ER (hsCell c) 0 false ∗ dutyTok ER (hrCell (xp c)) 0 false
    ∗ atPos ER (barCell c) 0 ∅ 0 ∗ atPos ER (hsCell c) 0 ∅ 0 ∗ atPos ER (hrCell c) 0 ∅ 0
    ∗ cred (tallyAt (barCell c) () 2) ∗ cred (tallyAt (hrCell c) () (if First c then 0 else NN)))

/-- The marks that the launch hands out: of the neighbours' barrier cells and of the device's own cells. -/
def marks : sProp 𝕄 :=
  iprop(reached ER (barCell (xp c)) 0 ∗ reached ER (barCell (yp c)) 0 ∗ reached ER (hsCell c) 0 ∗ reached ER (hrCell c) 0 ∗ reached ER (exCell c) 0)

instance marks_persistent : BI.Persistent (marks (F := F) c) := by unfold marks; infer_instance

/-- Before the first point. -/
def start : sProp 𝕄 :=
  iprop((∃ K, invs m c K) ∗ marks c ∗ entryToks c ∗ exitToks c ∗ levAts L lv)

/-- The scratch buffers at any contents. -/
def scratch : sProp 𝕄 :=
  iprop((∃ f : St F, sPts c f) ∗ (∃ f : St F, rPts c f) ∗ (∃ f : St F, owns (c : Thread nD τ) carM fullShare f)
    ∗ (∃ f : FVec F S4x32x512 .f32, owns (c : Thread nD τ) ybufM fullShare f))

/-- The three counters that the first point brings back. -/
def sems3 : sProp 𝕄 := iprop(semVal (barCell c) 0 ∗ semVal (hsCell c) 0 ∗ semVal (hrCell c) 0)

/-- Before chunk `n`, the hand-over behind. -/
def mid (n : ℕ) : sProp 𝕄 :=
  iprop((∃ K, invs m c K) ∗ reached ER (exCell (xp c)) 0 ∗ reached ER (exCell (yp c)) 0 ∗ exitToks c ∗ levAts L lv ∗ sems3 c
    ∗ (∃ f : St F, sPts c f) ∗ (∃ f : St F, rPts c f) ∗ owns (c : Thread nD τ) carM fullShare (carry m c n)
    ∗ (∃ f : FVec F S4x32x512 .f32, owns (c : Thread nD τ) ybufM fullShare f))

/-- After the last point. -/
def done : sProp 𝕄 := iprop(sems3 c ∗ semVal (exCell c) 0 ∗ scratch c)

/-- The body's invariant before point `n`. -/
def PhiAt (n : ℕ) : sProp 𝕄 := if n = 0 then iprop(start m c ∗ scratch c) else if n = 16 then done c else mid m c n

/-- What is owed before point `n`. -/
def owedAt (n : ℕ) : CellTallies nD τ sig Unit := if n = 0 then O₀ c else if n = 16 then 0 else Oex c

/-- The proof's data of the region. -/
def rdat : RDat τ (Elt F) Unit ℕ UU ℕ cfg0 c where
  A w := m ((cfg0.win w).arr.view.loc (c : Thread nD τ))
  after w t := match w with
    | ⟨6, _⟩ => fun (Y X : S2x4x16x32x512.Idx → Elt F .bf16) => Good m c t.val Y → Good m c (t.val + 1) X
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
  Φ t := PhiAt m c t.val
  q w := Pipeline.shareOf spec0 w
  owed t := owedAt c t.val

end Cert.KernelIdeal.Scan
-- ==== Proof.KernelIdealWalk.lean ====
/- The walk over the two barriers and the hand-over of the state. -/
module

public import proofs.«01_k».proof.Proof.KernelIdealData

@[expose] public section

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg cellOf)

variable {F : FTy → Type} [FloatOps F]

local notation "𝕄" => MT nD τ sig Unit (Elt F) ℕ UU ℕ

variable (m : (ℓ : Loc nD τ sig) → Buf (Elt F) ℓ) (c : Dev nD) (K : GSem nD τ sig → ℕ)

/-- A program of device `c` run to `Q`. -/
abbrev runs (p : BProg F) (Q : PUnit → sProp 𝕄) : sProp 𝕄 :=
  wp frame (wpE (defs₀ (F := F)) 𝒱₀ (c : Thread nD τ) none) Set.univ p Q

/-! ## What the barrier units hand over -/

/-- The landing buffer that a second-half device hands to its neighbour. -/
def giveLand : sProp 𝕄 := if First c then iprop(emp) else iprop(∃ f : St F, rPts c f)
/-- The landing buffer that a first-half device is handed. -/
def takeLand : sProp 𝕄 := if First c then landPay (F := F) c else iprop(emp)

theorem barPay_x : iprop(reached ER (hrCell c) 0 ∗ reached ER (exCell c) 0 ∗ giveLand (F := F) c) ⊢ barPay (F := F) (xp c) true := by
  unfold barPay giveLand landPay
  rw [if_pos rfl, xp_xp]
  by_cases h : First c
  · rw [if_pos h, if_neg (fun h' => (first_xp c).mp h' h)]
    iintro ⟨-, He, -⟩
    isplitl [He]; · iexact He
    iempintro
  · rw [if_neg h, if_pos ((first_xp c).mpr h)]
    iintro ⟨Hr, He, Hf⟩
    isplitl [He]; · iexact He
    isplitl [Hf]; · iexact Hf
    iexact Hr

theorem barPay_y : reached ER (exCell c) 0 ⊢ barPay (F := F) (yp c) false := by
  unfold barPay
  rw [if_neg Bool.false_ne_true, yp_yp]

theorem barPay_own : iprop(barPay (F := F) c false ∗ barPay (F := F) c true)
    ⊢ iprop(reached ER (exCell (xp c)) 0 ∗ reached ER (exCell (yp c)) 0 ∗ takeLand (F := F) c) := by
  unfold barPay takeLand
  rw [if_neg Bool.false_ne_true, if_pos rfl]
  iintro ⟨Hy, Hx, Hl⟩
  isplitl [Hx]; · iexact Hx
  isplitl [Hy]; · iexact Hy
  iexact Hl

theorem Osend_second (h : ¬ First c) : Osend c = Oex c := by
  unfold Osend; rw [if_neg h, tallyAt_zero, add_zero]

/-! ## The entry barrier -/

theorem wp_entryBarrier (i : grid0.Coords) (h1 : k0_cond1 i = 1#1) (W : Waits sig Unit) (p : BProg F) (Q : PUnit → sProp 𝕄) :
    iprop(invs m c K ∗ marks c ∗ levAts L lv ∗ giveLand c ∗ dutyTok ER (barCell (xp c)) 0 true ∗ dutyTok ER (barCell (yp c)) 0 false
        ∗ atPos ER (barCell c) 0 ∅ 0 ∗ cred (tallyAt (barCell c) () 2) ∗ owes (c : Thread nD τ) (O₀ c) W)
      ⊢ iprop((owes (c : Thread nD τ) (Osend c) (insert (SemLoc.reg barS, ()) W) ∗ semVal (barCell c) 0
            ∗ reached ER (exCell (xp c)) 0 ∗ reached ER (exCell (yp c)) 0 ∗ takeLand c -∗ runs c p Q)
          -∗ runs c (entryBarrier i c h1 p) Q) := by
  unfold entryBarrier invs marks
  simp only [semSignalWord, semWaitWord, Prog.lift, Prog.bind_op, Prog.bind_ret, Prog.pure_eq_ret]
  rw [dev1_eq i c h1, dev2_eq i c h1]
  iintro ⟨⟨#HIbar, #HIhs, #HIhr, #HIex, #HIbx, #HIby, #HIhx, #HIexx, #HIexy⟩, ⟨#Hrbx, #Hrby, #Hrhs, #Hrhr, #Hrex⟩, #Hlev, Hland, Htx, Hty, Hat, Hcr, HO⟩ Hk
  iapply (Rounds.wp_signal 𝒱₀ ER (rd (tl m)) (c : Thread nD τ) none (dst := (xp c : Thread nD τ)) (κ := K (barCell (xp c)))
      (d := true) (by rw [duties_bar]; exact Finset.mem_univ _) ((amount_bar (tl m) (xp c) true).trans (by decide)) ()
      (Osend c + tallyAt (barCell (yp c)) () 1) rfl) $$ [HO Htx Hland]
  · isplitr; · iexact HIbx
    isplitl [HO]; · iexact HO
    isplitl [Htx]; · iexact Htx
    isplitl [Hland]
    · rw [payload_bar]
      iapply (barPay_x c)
      isplitr; · iexact Hrhr
      isplitr; · iexact Hrex
      iexact Hland
    iexact Hrbx
  iintro HO
  iapply (Rounds.wp_signal 𝒱₀ ER (rd (tl m)) (c : Thread nD τ) none (dst := (yp c : Thread nD τ)) (κ := K (barCell (yp c)))
      (d := false) (by rw [duties_bar]; exact Finset.mem_univ _) ((amount_bar (tl m) (yp c) false).trans (by decide)) ()
      (Osend c) rfl) $$ [HO Hty]
  · isplitr; · iexact HIby
    isplitl [HO]; · iexact HO
    isplitl [Hty]; · iexact Hty
    isplitr
    · rw [payload_bar]
      iapply (barPay_y c)
      iexact Hrex
    iexact Hrby
  iintro HO
  iapply (Rounds.wp_wait_rest_token 𝒱₀ ER (rd (tl m)) (c : Thread nD τ) none (κ := K (barCell c))
      (wpE_semWait_eq 𝒱₀ (c : Thread nD τ) none Set.univ) (Set.mem_univ _) () (O := Osend c) (W := W) (R := 0) (m := 0) (T := ∅)
      (by rw [expect_bar]; decide)) $$ [Hcr HO Hat]
  · isplitr; · iexact HIbar
    isplitl [Hcr]; · iexact Hcr
    isplitl [HO]; · iexact HO
    isplitr; · iapply (mayWait_of (above_Osend c) (by rw [lv_bar])); iexact Hlev
    iexact Hat
  iintro ⟨HO, Hat, -, Hpay⟩
  ihave Hp := (Entails.of_eq (rest_bar (tl m) c)) $$ Hpay
  ihave Hp := (barPay_own c) $$ Hp
  icases Hp with ⟨Hex, Hey, Hl⟩
  imod (Rounds.cell_close ER (rd (tl m)) (Set.mem_univ (K (barCell c))) (fun h => h) (R := 0 + 1) (duties_later (tl m) (barCell c))) $$ [Hat] with Hz
  · isplitr; · iexact HIbar
    iexact Hat
  iapply Hk
  isplitl [HO]; · iexact HO
  isplitl [Hz]; · iexact Hz
  isplitl [Hex]; · iexact Hex
  isplitl [Hey]; · iexact Hey
  iexact Hl

/-! ## The exit barrier -/

theorem wp_exitBarrier (i : grid0.Coords) (h4 : k0_cond4 i = 1#1) (W : Waits sig Unit) (Q : PUnit → sProp 𝕄) :
    iprop(invs m c K ∗ reached ER (exCell (xp c)) 0 ∗ reached ER (exCell (yp c)) 0 ∗ exitToks c ∗ levAts L lv ∗ owes (c : Thread nD τ) (Oex c) W)
      ⊢ iprop((owes (c : Thread nD τ) 0 (insert (SemLoc.reg exitS, ()) W) ∗ semVal (exCell c) 0 -∗ Q ⟨⟩)
          -∗ runs c (exitBarrier i c h4 cc0_scoped0) Q) := by
  unfold exitBarrier invs exitToks
  simp only [semSignalWord, semWaitWord, Prog.lift, Prog.bind_op, Prog.bind_ret, Prog.pure_eq_ret]
  rw [dev4_eq i c h4, dev5_eq i c h4]
  iintro ⟨⟨#HIbar, #HIhs, #HIhr, #HIex, #HIbx, #HIby, #HIhx, #HIexx, #HIexy⟩, #Hrx, #Hry, ⟨Htx, Hty, Hat, Hcr⟩, #Hlev, HO⟩ Hk
  iapply (Rounds.wp_signal 𝒱₀ ER (rd (tl m)) (c : Thread nD τ) none (dst := (xp c : Thread nD τ)) (κ := K (exCell (xp c)))
      (d := true) (by rw [duties_ex]; exact Finset.mem_univ _) ((amount_ex (tl m) (xp c) true).trans (by decide)) ()
      (tallyAt (exCell (yp c)) () 1) rfl) $$ [HO Htx]
  · isplitr; · iexact HIexx
    isplitl [HO]; · iexact HO
    isplitl [Htx]; · iexact Htx
    isplitr; · rw [payload_ex]; iempintro
    iexact Hrx
  iintro HO
  iapply (Rounds.wp_signal 𝒱₀ ER (rd (tl m)) (c : Thread nD τ) none (dst := (yp c : Thread nD τ)) (κ := K (exCell (yp c)))
      (d := false) (by rw [duties_ex]; exact Finset.mem_univ _) ((amount_ex (tl m) (yp c) false).trans (by decide)) ()
      0 (by rw [zero_add])) $$ [HO Hty]
  · isplitr; · iexact HIexy
    isplitl [HO]; · iexact HO
    isplitl [Hty]; · iexact Hty
    isplitr; · rw [payload_ex]; iempintro
    iexact Hry
  iintro HO
  iapply (Rounds.wp_wait_rest_token 𝒱₀ ER (rd (tl m)) (c : Thread nD τ) none (κ := K (exCell c))
      (wpE_semWait_eq 𝒱₀ (c : Thread nD τ) none Set.univ) (Set.mem_univ _) () (O := 0) (W := W) (R := 0) (m := 0) (T := ∅)
      (by rw [expect_ex]; decide)) $$ [Hcr HO Hat]
  · isplitr; · iexact HIex
    isplitl [Hcr]; · iexact Hcr
    isplitl [HO]; · iexact HO
    isplitr; · rw [MayWait_zero]; iempintro
    iexact Hat
  iintro ⟨HO, Hat, -, -⟩
  imod (Rounds.cell_close ER (rd (tl m)) (Set.mem_univ (K (exCell c))) (fun h => h) (R := 0 + 1) (duties_later (tl m) (exCell c))) $$ [Hat] with Hz
  · isplitr; · iexact HIex
    iexact Hat
  rw [wp_ret]; imodintro
  iapply Hk
  isplitl [HO]; · iexact HO
  iexact Hz

/-! ## The state sent and received -/

/-- A landed copy of a whole state buffer is that state. -/
theorem landed_eq (fd fs : St F) :
    (rbufM : Memref sig .tc .vmem S4x16x512 .f32).view.write (Elt F) fd
      ((sbufM : Memref sig .tc .vmem S4x16x512 .f32).view.read (Elt F) fs) Finset.univ = fs := by
  show (View.whole cc0_scratch1).write (Elt F) fd ((View.whole cc0_scratch0).read (Elt F) fs) Finset.univ = fs
  rw [View.read_whole]
  exact View.write_whole_univ _ _ _

/-- The send to the `x` neighbour, addressed to `n` (substituted, not rewritten). -/
theorem wp_sendCopy (h : First c) (n : Dev nD) (hn : n = xp c) {hsc : (rbufM : Memref sig (Dev.tc n : Thread nD τ).2.kind .vmem S4x16x512 .f32).view.ref.isScScratch = false}
    {hsrc : (sbufM : Memref sig .tc .vmem S4x16x512 .f32).view.WordExact} {hdst : (rbufM : Memref sig .tc .vmem S4x16x512 .f32).view.WordExact}
    {hsem : DmaTarget.Typed .vmem (.dma hrS) (.remote (Dev.tc n : Thread nD τ) (rbufM : Memref sig .tc .vmem S4x16x512 .f32) (.dma hsS) hsc)}
    {α : Type} {Q : α → sProp 𝕄} {k : PUnit → Prog (TpuEff nD τ sig (Elt F) Λ₀ .tc) α} (fn : St F) (W : Waits sig Unit) :
    iprop(cellInv ER (rd (tl m)) (K (hsCell c)) (hsCell c) ∗ cellInv ER (rd (tl m)) (K (hrCell (xp c))) (hrCell (xp c))
        ∗ sPts c (tl m c) ∗ rPts (xp c) fn ∗ owes (c : Thread nD τ) (Osend c) W
        ∗ dutyTok ER (hsCell c) 0 false ∗ reached ER (hsCell c) 0
        ∗ dutyTok ER (hrCell (xp c)) 0 false ∗ reached ER (hrCell (xp c)) 0)
      ⊢ iprop(((cred (tallyAt (hsCell c) () NN) ∗ owes (c : Thread nD τ) (Oex c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sbufM (.remote (Dev.tc n : Thread nD τ) rbufM (.dma hsS) hsc) (.dma hrS) hsrc hdst hsem) k) Q) := by
  subst hn
  have hpay : ((rbufM : Memref sig .tc .vmem S4x16x512 .f32).view.loc (xp c : Thread nD τ)
        ↦[(rbufM : Memref sig .tc .vmem S4x16x512 .f32).view.set]{fullShare} ((rbufM : Memref sig .tc .vmem S4x16x512 .f32).view.write (Elt F) fn
          ((sbufM : Memref sig .tc .vmem S4x16x512 .f32).view.read (Elt F) (tl m c)) Finset.univ) : sProp 𝕄)
      ⊢ (rd (tl m)).payload (hrCell (xp c)) 0 false := by
    rw [payload_hr, xp_xp, landed_eq]; exact BI.Entails.refl _
  have hpay' : sPts c (tl m c) ⊢ (rd (tl m)).payload (hsCell c) 0 false := by rw [payload_hs]
  unfold sPts at hpay' ⊢
  unfold rPts
  have h1 : false ∈ (rd (tl m)).duties (hsCell c) 0 := by rw [duties_hs _ _ h]; exact Finset.mem_singleton_self _
  have h2 : false ∈ (rd (tl m)).duties (hrCell (xp c)) 0 := by rw [duties_hr _ _ (fun h' => (first_xp c).mp h' h)]; exact Finset.mem_singleton_self _
  have hO : Osend c = Oex c + tallyAt (hrCell (xp c)) () NN := by unfold Osend; rw [if_pos h]
  have hN : (rbufM : Memref sig .tc .vmem S4x16x512 .f32).view.amount (.dma hrS) = NN := rfl
  have hr : τ.routes (c : Thread nD τ) (xp c : Thread nD τ) = true := by routes
  have a1 : (rd (tl m)).amount (hsCell c) 0 false = NN := amount_hs (tl m) c false
  have a2 : (rd (tl m)).amount (hrCell (xp c)) 0 false = NN := amount_hr (tl m) (xp c) false
  generalize NN = N at *
  generalize Osend c = O at *
  have key := Rounds.wp_send_pointsTo 𝒱₀ ER (rd (tl m)) (c : Thread nD τ) none (c' := (xp c : Thread nD τ)) (src := sbufM) (dst := rbufM) (hsc := hsc) (sS := .dma hsS) (sem := .dma hrS)
    (hsrc := hsrc) (hdst := hdst) (hsem := hsem) (κ₁ := K (hsCell c)) (κ₂ := K (hrCell (xp c)))
    (r₁ := 0) (r₂ := 0) (d₁ := false) (d₂ := false) (fs := tl m c) (fd := fn) h1 h2 () () N hN a1 a2 (Oex c) hO (W := W) (Q := Q) (k := k) (defs := defs₀ (F := F)) (Es := Set.univ) (Γ := PendingWaitsCtx.empty) hpay' hpay hr
  exact key

theorem wp_sendState (h : First c) (i : grid0.Coords) (h1 : k0_cond1 i = 1#1) (W : Waits sig Unit) (p : BProg F) (Q : PUnit → sProp 𝕄) :
    iprop(invs m c K ∗ levAts L lv ∗ takeLand c ∗ sPts c (tl m c) ∗ dutyTok ER (hsCell c) 0 false ∗ dutyTok ER (hrCell (xp c)) 0 false
        ∗ reached ER (hsCell c) 0 ∗ atPos ER (hsCell c) 0 ∅ 0 ∗ atPos ER (hrCell c) 0 ∅ 0 ∗ owes (c : Thread nD τ) (Osend c) W)
      ⊢ iprop((owes (c : Thread nD τ) (Oex c) (insert (SemLoc.dma hsS, ()) W) ∗ semVal (hsCell c) 0 ∗ semVal (hrCell c) 0 ∗ sPts c (tl m c) -∗ runs c p Q)
          -∗ runs c (sendState i c h1 h sbufM (Memref.isWhole_whole _) rbufM (Memref.isWhole_whole _) cc0_scratch4 cc0_scratch5 p) Q) := by
  unfold sendState invs takeLand landPay
  simp only [Prog.lift, Prog.bind_op, Prog.bind_ret, Prog.pure_eq_ret]
  rw [if_pos h]
  iintro ⟨⟨#HIbar, #HIhs, #HIhr, #HIex, #HIbx, #HIby, #HIhx, #HIexx, #HIexy⟩, #Hlev, ⟨⟨%fn, Hrx⟩, #Hrhx⟩, Hs, Hts, Htr, #Hrhs, Hat, Hat', HO⟩ Hk
  iapply (wp_sendCopy m c K h _ (dev3_eq i c h1 h) fn W) $$ [Hs Hrx HO Hts Htr]
  · isplitr; · iexact HIhs
    isplitr; · iexact HIhx
    isplitl [Hs]; · iexact Hs
    isplitl [Hrx]; · iexact Hrx
    isplitl [HO]; · iexact HO
    isplitl [Hts]; · iexact Hts
    isplitr; · iexact Hrhs
    isplitl [Htr]; · iexact Htr
    iexact Hrhx
  iintro ⟨Hcr, HO⟩
  iapply (Rounds.wp_wait_rest_token 𝒱₀ ER (rd (tl m)) (c : Thread nD τ) none (κ := K (hsCell c))
      (wpE_waitDma2_eq 𝒱₀ (c : Thread nD τ) none Set.univ) (Set.mem_univ _) () (O := Oex c) (W := W) (R := 0) (m := 0) (T := ∅)
      (by rw [Nat.zero_add, expect_hs _ _ h])) $$ [Hcr HO Hat]
  · isplitr; · iexact HIhs
    isplitl [Hcr]; · iexact Hcr
    isplitl [HO]; · iexact HO
    isplitr
    · iapply (mayWait_of (above_Oex c) (by unfold lv; rw [if_neg hs_ne_bar, if_neg hr_ne_hs.symm, if_neg hs_ne_ex]; exact Nat.zero_le _)); iexact Hlev
    iexact Hat
  iintro ⟨HO, Hat, -, Hpay⟩
  ihave Hs := (Entails.of_eq (rest_hs (tl m) c h)) $$ Hpay
  imod (Rounds.cell_close ER (rd (tl m)) (Set.mem_univ (K (hsCell c))) (fun h => h) (R := 0 + 1) (duties_later (tl m) (hsCell c))) $$ [Hat] with Hz
  · isplitr; · iexact HIhs
    iexact Hat
  imod (Rounds.cell_close ER (rd (tl m)) (Set.mem_univ (K (hrCell c))) (fun h => h) (R := 0) (duties_none (tl m) (duties_hr_none (tl m) c h))) $$ [Hat'] with Hz'
  · isplitr; · iexact HIhr
    iexact Hat'
  iapply Hk
  isplitl [HO]; · iexact HO
  isplitl [Hz]; · iexact Hz
  isplitl [Hz']; · iexact Hz'
  iexact Hs

theorem wp_recvState (h : ¬ First c) (W : Waits sig Unit) (p : BProg F) (Q : PUnit → sProp 𝕄) :
    iprop(invs m c K ∗ levAts L lv ∗ atPos ER (hsCell c) 0 ∅ 0 ∗ atPos ER (hrCell c) 0 ∅ 0 ∗ cred (tallyAt (hrCell c) () NN)
        ∗ owes (c : Thread nD τ) (Osend c) W)
      ⊢ iprop((owes (c : Thread nD τ) (Oex c) (insert (SemLoc.dma hrS, ()) W) ∗ semVal (hsCell c) 0 ∗ semVal (hrCell c) 0 ∗ rPts c (tl m (xp c)) -∗ runs c p Q)
          -∗ runs c (recvState sbufM (Memref.isWhole_whole _) rbufM (Memref.isWhole_whole _) cc0_scratch5 p) Q) := by
  unfold recvState invs
  simp only [Prog.lift, Prog.bind_op, Prog.bind_ret, Prog.pure_eq_ret]
  rw [Osend_second c h]
  iintro ⟨⟨#HIbar, #HIhs, #HIhr, #HIex, #HIbx, #HIby, #HIhx, #HIexx, #HIexy⟩, #Hlev, Hat, Hat', Hcr, HO⟩ Hk
  iapply (Rounds.wp_wait_rest_token 𝒱₀ ER (rd (tl m)) (c : Thread nD τ) none (κ := K (hrCell c))
      (wpE_waitDma2_eq 𝒱₀ (c : Thread nD τ) none Set.univ) (Set.mem_univ _) () (O := Oex c) (W := W) (R := 0) (m := 0) (T := ∅)
      (by rw [Nat.zero_add, expect_hr _ _ h])) $$ [Hcr HO Hat']
  · isplitr; · iexact HIhr
    isplitl [Hcr]; · iexact Hcr
    isplitl [HO]; · iexact HO
    isplitr; · iapply (mayWait_of (above_Oex c) (by rw [lv_hr])); iexact Hlev
    iexact Hat'
  iintro ⟨HO, Hat', -, Hpay⟩
  ihave Hr := (Entails.of_eq (rest_hr (tl m) c h)) $$ Hpay
  imod (Rounds.cell_close ER (rd (tl m)) (Set.mem_univ (K (hrCell c))) (fun h => h) (R := 0 + 1) (duties_later (tl m) (hrCell c))) $$ [Hat'] with Hz'
  · isplitr; · iexact HIhr
    iexact Hat'
  imod (Rounds.cell_close ER (rd (tl m)) (Set.mem_univ (K (hsCell c))) (fun h => h) (R := 0) (duties_none (tl m) (duties_hs_none (tl m) c h))) $$ [Hat] with Hz
  · isplitr; · iexact HIhs
    iexact Hat
  iapply Hk
  isplitl [HO]; · iexact HO
  isplitl [Hz]; · iexact Hz
  isplitl [Hz']; · iexact Hz'
  iexact Hr

end Cert.KernelIdeal.Scan
-- ==== Proof.KernelIdealHand.lean ====
/- The first point's hand-over on either kind of device. -/
module

public import proofs.«01_k».proof.Proof.KernelIdealWalk

@[expose] public section

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg cellOf)

variable {F : FTy → Type} [FloatOps F]

local notation "𝕄" => MT nD τ sig Unit (Elt F) ℕ UU ℕ

variable (m : (ℓ : Loc nD τ sig) → Buf (Elt F) ℓ) (c : Dev nD)

theorem sPts_owns (c : Dev nD) (f : St F) : sPts c f = owns (c : Thread nD τ) sbufM fullShare f := by
  rw [sPts_eq]; symm; apply owns_whole
theorem rPts_owns (c : Dev nD) (f : St F) : rPts c f = owns (c : Thread nD τ) rbufM fullShare f := by
  rw [rPts_eq]; symm; apply owns_whole

theorem wp_storeWarm (i : grid0.Coords) (h1 : k0_cond1 i = 1#1) (arg5 : Memref sig .tc .vmem S8x32x512 .bf16) (arg6 : Memref sig .tc .vmem S8x32x16 .bf16)
    (v9 : Vec F S512x16 .bf16) (hv9 : k0_pay29 v9 = dec m c) (p : BProg F) (Q : PUnit → sProp 𝕄) :
    iprop(owns (c : Thread nD τ) arg5 fullShare (tailX m c (pt 0)) ∗ owns (c : Thread nD τ) arg6 fullShare (tailB m c (pt 0)) ∗ (∃ f : St F, sPts c f))
      ⊢ iprop((owns (c : Thread nD τ) arg5 fullShare (tailX m c (pt 0)) ∗ owns (c : Thread nD τ) arg6 fullShare (tailB m c (pt 0)) ∗ sPts c (tl m c) -∗ runs c p Q)
          -∗ runs c (storeWarm i c h1 arg5 arg6 sbufM v9 p) Q) := by
  unfold storeWarm
  simp only [sPts_owns, Prog.lift, Prog.bind_op, Prog.bind_ret, Prog.pure_eq_ret]
  iintro ⟨H5, H6, ⟨%f, Hs⟩⟩ Hk
  iapply (wp_load_owned c (tailX m c (pt 0))) $$ H5
  iintro H5
  iapply (wp_load_owned c (tailB m c (pt 0))) $$ H6
  iintro H6
  iapply (wp_load_owned c f) $$ Hs
  iintro Hs
  iapply (wp_store_owned c f) $$ Hs
  rw [overlay_zero _ _ zero3, hv9]
  iintro Hs
  iapply Hk
  isplitl [H5]; · iexact H5
  isplitl [H6]; · iexact H6
  iexact Hs

theorem wp_setCarry (p : BProg F) (Q : PUnit → sProp 𝕄) (f : St F) (hf : k0_pay30 (isSecond c) f (Scalar.ofBits .f32 0x00000000#32) = carry m c 0) :
    iprop(rPts c f ∗ (∃ g : St F, owns (c : Thread nD τ) carM fullShare g))
      ⊢ iprop((rPts c f ∗ owns (c : Thread nD τ) carM fullShare (carry m c 0) -∗ runs c p Q)
          -∗ runs c (setCarry rbufM carM (isSecond c) p) Q) := by
  unfold setCarry
  simp only [rPts_owns, Prog.lift, Prog.bind_op, Prog.bind_ret, Prog.pure_eq_ret]
  iintro ⟨Hr, ⟨%g, Hc⟩⟩ Hk
  iapply (wp_load_owned c f) $$ Hr
  iintro Hr
  iapply (wp_load_owned c g) $$ Hc
  iintro Hc
  iapply (wp_store_owned c g) $$ Hc
  rw [overlay_zero _ _ zero3, cut_zero _ zero3, hf]
  iintro Hc
  iapply Hk
  isplitl [Hr]; · iexact Hr
  iexact Hc

set_option maxHeartbeats 1000000 in
/-- The first point's hand-over on the first half's devices. -/
theorem wp_handOver_first (i : grid0.Coords) (h1 : k0_cond1 i = 1#1) (arg5 : Memref sig .tc .vmem S8x32x512 .bf16) (arg6 : Memref sig .tc .vmem S8x32x16 .bf16)
    (v9 : Vec F S512x16 .bf16) (h : First c) (hv9 : k0_pay29 v9 = dec m c) (p : BProg F) (Q : PUnit → sProp 𝕄) (W : Waits sig Unit) :
    iprop(start m c ∗ scratch c ∗ owns (c : Thread nD τ) arg5 fullShare (tailX m c (pt 0)) ∗ owns (c : Thread nD τ) arg6 fullShare (tailB m c (pt 0))
        ∗ owes (c : Thread nD τ) (O₀ c) W)
      ⊢ iprop((mid m c 0 ∗ owns (c : Thread nD τ) arg5 fullShare (tailX m c (pt 0)) ∗ owns (c : Thread nD τ) arg6 fullShare (tailB m c (pt 0))
            ∗ (∃ W', owes (c : Thread nD τ) (Oex c) W') -∗ runs c p Q)
          -∗ runs c (handOver i arg5 arg6 sbufM (Memref.isWhole_whole _) rbufM (Memref.isWhole_whole _) carM cc0_scratch4 cc0_scratch5 h1 c v9 p) Q) := by
  unfold handOver start scratch entryToks marks
  iintro ⟨⟨⟨%K, #HI⟩, ⟨#Hm1, #Hm2, #Hm3, #Hm4, #Hm5⟩, ⟨Htx, Hty, Hths, Hthr, Hatb, Haths, Hathr, Hcrb, Hcrr⟩, Hex, #Hlev⟩, ⟨Hs, Hr, Hc, Hy⟩, H5, H6, HO⟩ Hk
  rw [dif_pos h]
  iapply (wp_entryBarrier m c K i h1 W) $$ [Htx Hty Hatb Hcrb HO]
  · isplitr; · iexact HI
    isplitr
    · unfold marks
      isplitr; · iexact Hm1
      isplitr; · iexact Hm2
      isplitr; · iexact Hm3
      isplitr; · iexact Hm4
      iexact Hm5
    isplitr; · iexact Hlev
    isplitr; · unfold giveLand; rw [if_pos h]; iempintro
    isplitl [Htx]; · iexact Htx
    isplitl [Hty]; · iexact Hty
    isplitl [Hatb]; · iexact Hatb
    isplitl [Hcrb]; · iexact Hcrb
    iexact HO
  iintro ⟨HO, Hzb, Hrx, Hry, Hland⟩
  iapply (wp_storeWarm m c i h1 arg5 arg6 v9 hv9) $$ [H5 H6 Hs]
  · isplitl [H5]; · iexact H5
    isplitl [H6]; · iexact H6
    iexact Hs
  iintro ⟨H5, H6, Hs⟩
  iapply (wp_sendState m c K h i h1) $$ [Hland Hs Hths Hthr Haths Hathr HO]
  · isplitr; · iexact HI
    isplitr; · iexact Hlev
    isplitl [Hland]; · iexact Hland
    isplitl [Hs]; · iexact Hs
    isplitl [Hths]; · iexact Hths
    isplitl [Hthr]; · iexact Hthr
    isplitr; · iexact Hm3
    isplitl [Haths]; · iexact Haths
    isplitl [Hathr]; · iexact Hathr
    iexact HO
  iintro ⟨HO, Hzs, Hzr, Hs⟩
  icases Hr with ⟨%fr, Hr⟩
  iapply (wp_setCarry m c _ _ fr (by rw [pay30_first c h]; exact (if_pos h).symm)) $$ [Hr Hc]
  · isplitl [Hr]; · iexact Hr
    iexact Hc
  iintro ⟨Hr, Hc⟩
  iapply Hk
  isplitl [Hrx Hry Hex Hzb Hzs Hzr Hs Hr Hc Hy]
  · unfold mid sems3
    isplitr; · iexists K; iexact HI
    isplitl [Hrx]; · iexact Hrx
    isplitl [Hry]; · iexact Hry
    isplitl [Hex]; · iexact Hex
    isplitr; · iexact Hlev
    isplitl [Hzb Hzs Hzr]
    · isplitl [Hzb]; · iexact Hzb
      isplitl [Hzs]; · iexact Hzs
      iexact Hzr
    isplitl [Hs]; · iexists (tl m c); iexact Hs
    isplitl [Hr]; · iexists fr; iexact Hr
    isplitl [Hc]; · iexact Hc
    iexact Hy
  isplitl [H5]; · iexact H5
  isplitl [H6]; · iexact H6
  iexists _; iexact HO

set_option maxHeartbeats 1000000 in
/-- The first point's hand-over on the second half's devices. -/
theorem wp_handOver_second (i : grid0.Coords) (h1 : k0_cond1 i = 1#1) (arg5 : Memref sig .tc .vmem S8x32x512 .bf16) (arg6 : Memref sig .tc .vmem S8x32x16 .bf16)
    (v9 : Vec F S512x16 .bf16) (h : ¬ First c) (hv9 : k0_pay29 v9 = dec m c) (p : BProg F) (Q : PUnit → sProp 𝕄) (W : Waits sig Unit) :
    iprop(start m c ∗ scratch c ∗ owns (c : Thread nD τ) arg5 fullShare (tailX m c (pt 0)) ∗ owns (c : Thread nD τ) arg6 fullShare (tailB m c (pt 0))
        ∗ owes (c : Thread nD τ) (O₀ c) W)
      ⊢ iprop((mid m c 0 ∗ owns (c : Thread nD τ) arg5 fullShare (tailX m c (pt 0)) ∗ owns (c : Thread nD τ) arg6 fullShare (tailB m c (pt 0))
            ∗ (∃ W', owes (c : Thread nD τ) (Oex c) W') -∗ runs c p Q)
          -∗ runs c (handOver i arg5 arg6 sbufM (Memref.isWhole_whole _) rbufM (Memref.isWhole_whole _) carM cc0_scratch4 cc0_scratch5 h1 c v9 p) Q) := by
  unfold handOver start scratch entryToks marks
  iintro ⟨⟨⟨%K, #HI⟩, ⟨#Hm1, #Hm2, #Hm3, #Hm4, #Hm5⟩, ⟨Htx, Hty, Hths, Hthr, Hatb, Haths, Hathr, Hcrb, Hcrr⟩, Hex, #Hlev⟩, ⟨Hs, Hr, Hc, Hy⟩, H5, H6, HO⟩ Hk
  rw [dif_neg h]
  iapply (wp_entryBarrier m c K i h1 W) $$ [Htx Hty Hatb Hcrb HO Hr]
  · isplitr; · iexact HI
    isplitr
    · unfold marks
      isplitr; · iexact Hm1
      isplitr; · iexact Hm2
      isplitr; · iexact Hm3
      isplitr; · iexact Hm4
      iexact Hm5
    isplitr; · iexact Hlev
    isplitl [Hr]; · unfold giveLand; rw [if_neg h]; iexact Hr
    isplitl [Htx]; · iexact Htx
    isplitl [Hty]; · iexact Hty
    isplitl [Hatb]; · iexact Hatb
    isplitl [Hcrb]; · iexact Hcrb
    iexact HO
  iintro ⟨HO, Hzb, Hrx, Hry, -⟩
  iapply (wp_storeWarm m c i h1 arg5 arg6 v9 hv9) $$ [H5 H6 Hs]
  · isplitl [H5]; · iexact H5
    isplitl [H6]; · iexact H6
    iexact Hs
  iintro ⟨H5, H6, Hs⟩
  iapply (wp_recvState m c K h) $$ [Haths Hathr Hcrr HO]
  · isplitr; · iexact HI
    isplitr; · iexact Hlev
    isplitl [Haths]; · iexact Haths
    isplitl [Hathr]; · iexact Hathr
    isplitl [Hcrr]; · rw [if_neg h]; iexact Hcrr
    iexact HO
  iintro ⟨HO, Hzs, Hzr, Hr⟩
  iapply (wp_setCarry m c _ _ (tl m (xp c)) (by rw [pay30_second c h]; exact (if_neg h).symm)) $$ [Hr Hc]
  · isplitl [Hr]; · iexact Hr
    iexact Hc
  iintro ⟨Hr, Hc⟩
  iapply Hk
  isplitl [Hrx Hry Hex Hzb Hzs Hzr Hs Hr Hc Hy]
  · unfold mid sems3
    isplitr; · iexists K; iexact HI
    isplitl [Hrx]; · iexact Hrx
    isplitl [Hry]; · iexact Hry
    isplitl [Hex]; · iexact Hex
    isplitr; · iexact Hlev
    isplitl [Hzb Hzs Hzr]
    · isplitl [Hzb]; · iexact Hzb
      isplitl [Hzs]; · iexact Hzs
      iexact Hzr
    isplitl [Hs]; · iexists (tl m c); iexact Hs
    isplitl [Hr]; · iexists (tl m (xp c)); iexact Hr
    isplitl [Hc]; · iexact Hc
    iexact Hy
  isplitl [H5]; · iexact H5
  isplitl [H6]; · iexact H6
  iexists _; iexact HO

/-- The first point's hand-over. -/
theorem wp_handOver (i : grid0.Coords) (h1 : k0_cond1 i = 1#1) (arg5 : Memref sig .tc .vmem S8x32x512 .bf16) (arg6 : Memref sig .tc .vmem S8x32x16 .bf16)
    (v9 : Vec F S512x16 .bf16) (hv9 : k0_pay29 v9 = dec m c) (p : BProg F) (Q : PUnit → sProp 𝕄) (W : Waits sig Unit) :
    iprop(start m c ∗ scratch c ∗ owns (c : Thread nD τ) arg5 fullShare (tailX m c (pt 0)) ∗ owns (c : Thread nD τ) arg6 fullShare (tailB m c (pt 0))
        ∗ owes (c : Thread nD τ) (O₀ c) W)
      ⊢ iprop((mid m c 0 ∗ owns (c : Thread nD τ) arg5 fullShare (tailX m c (pt 0)) ∗ owns (c : Thread nD τ) arg6 fullShare (tailB m c (pt 0))
            ∗ (∃ W', owes (c : Thread nD τ) (Oex c) W') -∗ runs c p Q)
          -∗ runs c (handOver i arg5 arg6 sbufM (Memref.isWhole_whole _) rbufM (Memref.isWhole_whole _) carM cc0_scratch4 cc0_scratch5 h1 c v9 p) Q) :=
  if h : First c then wp_handOver_first m c i h1 arg5 arg6 v9 h hv9 p Q W else wp_handOver_second m c i h1 arg5 arg6 v9 h hv9 p Q W

end Cert.KernelIdeal.Scan
-- ==== Proof.KernelIdealPoint.lean ====
/- The body at every point of the grid. -/
module

public import proofs.«01_k».proof.Proof.KernelIdealHand

@[expose] public section

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg cellOf)

variable {F : FTy → Type} [FloatOps F]

local notation "𝕄" => MT nD τ sig Unit (Elt F) ℕ UU ℕ

variable (m : (ℓ : Loc nD τ sig) → Buf (Elt F) ℓ) (c : Dev nD)

theorem zero2 : (![0, 0] : Fin 2 → ℕ) = fun _ => 0 := by funext a; fin_cases a <;> rfl

theorem runs_ret (Q : PUnit → sProp 𝕄) : Q ⟨⟩ ⊢ runs (F := F) c (Prog.ret ⟨⟩) Q := by
  unfold runs; rw [wp_ret]; iintro H; imodintro; iexact H

/-- The staged blocks at point `t`, the result's buffer at `Y`. -/
def bufs (t : Fin grid0.N) (arg1 : Memref sig .tc .vmem S8x32x512 .bf16) (arg2 : Memref sig .tc .vmem S512x16 .bf16) (arg3 arg4 : Memref sig .tc .vmem S8x32x16 .bf16)
    (arg5 : Memref sig .tc .vmem S8x32x512 .bf16) (arg6 : Memref sig .tc .vmem S8x32x16 .bf16) (arg7 : Memref sig .tc .vmem S2x4x16x32x512 .bf16)
    (Y : S2x4x16x32x512.Idx → Elt F .bf16) : sProp 𝕄 :=
  iprop(owns (c : Thread nD τ) arg1 fullShare (blkX m c t) ∗ owns (c : Thread nD τ) arg2 fullShare (blkA m c t) ∗ owns (c : Thread nD τ) arg3 fullShare (blkB m c t)
    ∗ owns (c : Thread nD τ) arg4 fullShare (blkC m c t) ∗ owns (c : Thread nD τ) arg5 fullShare (tailX m c t) ∗ owns (c : Thread nD τ) arg6 fullShare (tailB m c t)
    ∗ owns (c : Thread nD τ) arg7 fullShare Y)

/-- The result's buffer with point `t`'s chunk stored. -/
def stored (t : Fin grid0.N) (Y : S2x4x16x32x512.Idx → Elt F .bf16) : S2x4x16x32x512.Idx → Elt F .bf16 :=
  (outRect (grid0.coords t) c).overlay Y (k0_pay1 (yb m c t))

/-- A chunk and what follows it, from `mid` to `mid`, the exit barrier aside. -/
theorem wp_chunkMid (t : Fin grid0.N) (arg1 : Memref sig .tc .vmem S8x32x512 .bf16) (arg2 : Memref sig .tc .vmem S512x16 .bf16) (arg3 arg4 : Memref sig .tc .vmem S8x32x16 .bf16)
    (arg5 : Memref sig .tc .vmem S8x32x512 .bf16) (arg6 : Memref sig .tc .vmem S8x32x16 .bf16) (arg7 : Memref sig .tc .vmem S2x4x16x32x512 .bf16) (harg7 : arg7.IsWhole)
    (v9 : Vec F S512x16 .bf16) (hv9 : k0_pay29 v9 = dec m c) (Y : S2x4x16x32x512.Idx → Elt F .bf16) (p : BProg F) (Q : PUnit → sProp 𝕄) :
    iprop(mid m c t.val ∗ bufs m c t arg1 arg2 arg3 arg4 arg5 arg6 arg7 Y)
      ⊢ iprop((mid m c (t.val + 1) ∗ bufs m c t arg1 arg2 arg3 arg4 arg5 arg6 arg7 (stored m c t Y) -∗ runs c p Q)
          -∗ runs c (chunk (grid0.coords t) arg1 arg3 arg4 arg7 harg7 carM ybufM c v9 p) Q) := by
  unfold mid bufs stored
  rw [carry_succ]
  iintro ⟨⟨HI, Hrx, Hry, Hex, Hlev, Hz, Hs, Hr, Hc, ⟨%g, Hy⟩⟩, H1, H2, H3, H4, H5, H6, H7⟩ Hk
  iapply (wp_chunk c (grid0.coords t) arg1 arg3 arg4 arg7 harg7 carM ybufM c v9 (blkX m c t) (blkB m c t) (blkC m c t) (carry m c t.val) g Y
      (xh m c t) (bh m c t) (ch m c t) rfl rfl rfl p Q) $$ [H1 H3 H4 Hy Hc H7]
  · isplitl [H1]; · iexact H1
    isplitl [H3]; · iexact H3
    isplitl [H4]; · iexact H4
    isplitl [Hy]; · iexact Hy
    isplitl [Hc]; · iexact Hc
    iexact H7
  rw [hv9]
  iintro ⟨H1, H3, H4, Hy, Hc, H7⟩
  iapply Hk
  isplitl [HI Hrx Hry Hex Hlev Hz Hs Hr Hc Hy]
  · isplitl [HI]; · iexact HI
    isplitl [Hrx]; · iexact Hrx
    isplitl [Hry]; · iexact Hry
    isplitl [Hex]; · iexact Hex
    isplitl [Hlev]; · iexact Hlev
    isplitl [Hz]; · iexact Hz
    isplitl [Hs]; · iexact Hs
    isplitl [Hr]; · iexact Hr
    isplitl [Hc]; · iexact Hc
    iexists _; iexact Hy
  isplitl [H1]; · iexact H1
  isplitl [H2]; · iexact H2
  isplitl [H3]; · iexact H3
  isplitl [H4]; · iexact H4
  isplitl [H5]; · iexact H5
  isplitl [H6]; · iexact H6
  iexact H7

/-- The body on any buffers. -/
abbrev bodyOn (t : Fin grid0.N) (arg1 : Memref sig .tc .vmem S8x32x512 .bf16) (harg1 : arg1.IsWhole) (arg2 : Memref sig .tc .vmem S512x16 .bf16) (harg2 : arg2.IsWhole)
    (arg3 : Memref sig .tc .vmem S8x32x16 .bf16) (harg3 : arg3.IsWhole) (arg4 : Memref sig .tc .vmem S8x32x16 .bf16) (harg4 : arg4.IsWhole)
    (arg5 : Memref sig .tc .vmem S8x32x512 .bf16) (harg5 : arg5.IsWhole) (arg6 : Memref sig .tc .vmem S8x32x16 .bf16) (harg6 : arg6.IsWhole)
    (arg7 : Memref sig .tc .vmem S2x4x16x32x512 .bf16) (harg7 : arg7.IsWhole) : BProg F :=
  cc0_body (grid0.coords t) arg1 harg1 arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0

/-- The first point. -/
theorem wp_first (t : Fin grid0.N) (arg1 : Memref sig .tc .vmem S8x32x512 .bf16) (harg1 : arg1.IsWhole) (arg2 : Memref sig .tc .vmem S512x16 .bf16) (harg2 : arg2.IsWhole)
    (arg3 : Memref sig .tc .vmem S8x32x16 .bf16) (harg3 : arg3.IsWhole) (arg4 : Memref sig .tc .vmem S8x32x16 .bf16) (harg4 : arg4.IsWhole)
    (arg5 : Memref sig .tc .vmem S8x32x512 .bf16) (harg5 : arg5.IsWhole) (arg6 : Memref sig .tc .vmem S8x32x16 .bf16) (harg6 : arg6.IsWhole)
    (arg7 : Memref sig .tc .vmem S2x4x16x32x512 .bf16) (harg7 : arg7.IsWhole) (Y : S2x4x16x32x512.Idx → Elt F .bf16) (W : Waits sig Unit) (Q : PUnit → sProp 𝕄) (ht : t.val = 0) :
    iprop(start m c ∗ scratch c ∗ owes (c : Thread nD τ) (O₀ c) W ∗ bufs m c t arg1 arg2 arg3 arg4 arg5 arg6 arg7 Y)
      ⊢ iprop((mid m c (t.val + 1) ∗ (∃ W', owes (c : Thread nD τ) (Oex c) W') ∗ bufs m c t arg1 arg2 arg3 arg4 arg5 arg6 arg7 (stored m c t Y) -∗ Q ⟨⟩)
          -∗ runs c (bodyOn t arg1 harg1 arg2 harg2 arg3 harg3 arg4 harg4 arg5 harg5 arg6 harg6 arg7 harg7) Q) := by
  have e : pt 0 = t := by rw [← ht]; exact pt_val t
  unfold runs bodyOn
  rw [body_first (h1 := (cond1_iff t).mpr ht)]
  unfold afterChunk
  rw [wp_deviceId]
  simp only [dif_neg (fun h => absurd ((cond4_iff t).mp h) (by omega) : ¬ k0_cond4 (grid0.coords t) = 1#1), Prog.pure_eq_ret]
  iintro ⟨Hst, Hsc, HO, Hb⟩ Hk
  unfold bufs
  icases Hb with ⟨H1, H2, H3, H4, H5, H6, H7⟩
  iapply (wp_load_owned c (blkA m c t)) $$ H2
  iintro H2
  iapply (wp_handOver m c (grid0.coords t) ((cond1_iff t).mpr ht) arg5 arg6 (cut (blkA m c t) (Rect.unit (s := S512x16) ![0, 0] S512x16.size inb_S512x16_S512x16_0_0))
      (by rw [cut_zero _ zero2]; rfl) _ Q W) $$ [Hst Hsc H5 H6 HO]
  · isplitl [Hst]; · iexact Hst
    isplitl [Hsc]; · iexact Hsc
    isplitl [H5]; · rw [e]; iexact H5
    isplitl [H6]; · rw [e]; iexact H6
    iexact HO
  iintro ⟨Hm, H5, H6, HO⟩
  iapply (wp_chunkMid m c t arg1 arg2 arg3 arg4 arg5 arg6 arg7 harg7 (cut (blkA m c t) (Rect.unit (s := S512x16) ![0, 0] S512x16.size inb_S512x16_S512x16_0_0))
      (by rw [cut_zero _ zero2]; rfl) Y _ Q) $$ [Hm H1 H2 H3 H4 H5 H6 H7]
  · isplitl [Hm]; · rw [ht]; iexact Hm
    unfold bufs
    isplitl [H1]; · iexact H1
    isplitl [H2]; · iexact H2
    isplitl [H3]; · iexact H3
    isplitl [H4]; · iexact H4
    isplitl [H5]; · rw [e]; iexact H5
    isplitl [H6]; · rw [e]; iexact H6
    iexact H7
  unfold bufs
  iintro ⟨Hm, Hb⟩
  iapply (runs_ret c Q)
  iapply Hk
  isplitl [Hm]; · iexact Hm
  isplitl [HO]; · iexact HO
  iexact Hb

/-- A point between. -/
theorem wp_middle (t : Fin grid0.N) (arg1 : Memref sig .tc .vmem S8x32x512 .bf16) (harg1 : arg1.IsWhole) (arg2 : Memref sig .tc .vmem S512x16 .bf16) (harg2 : arg2.IsWhole)
    (arg3 : Memref sig .tc .vmem S8x32x16 .bf16) (harg3 : arg3.IsWhole) (arg4 : Memref sig .tc .vmem S8x32x16 .bf16) (harg4 : arg4.IsWhole)
    (arg5 : Memref sig .tc .vmem S8x32x512 .bf16) (harg5 : arg5.IsWhole) (arg6 : Memref sig .tc .vmem S8x32x16 .bf16) (harg6 : arg6.IsWhole)
    (arg7 : Memref sig .tc .vmem S2x4x16x32x512 .bf16) (harg7 : arg7.IsWhole) (Y : S2x4x16x32x512.Idx → Elt F .bf16) (W : Waits sig Unit) (Q : PUnit → sProp 𝕄) (h0 : t.val ≠ 0) (h15 : t.val ≠ 15) :
    iprop(mid m c t.val ∗ owes (c : Thread nD τ) (Oex c) W ∗ bufs m c t arg1 arg2 arg3 arg4 arg5 arg6 arg7 Y)
      ⊢ iprop((mid m c (t.val + 1) ∗ (∃ W', owes (c : Thread nD τ) (Oex c) W') ∗ bufs m c t arg1 arg2 arg3 arg4 arg5 arg6 arg7 (stored m c t Y) -∗ Q ⟨⟩)
          -∗ runs c (bodyOn t arg1 harg1 arg2 harg2 arg3 harg3 arg4 harg4 arg5 harg5 arg6 harg6 arg7 harg7) Q) := by
  unfold runs bodyOn
  rw [body_later (h1 := fun h => h0 ((cond1_iff t).mp h))]
  unfold afterChunk
  rw [wp_deviceId]
  simp only [dif_neg (fun h => h15 ((cond4_iff t).mp h) : ¬ k0_cond4 (grid0.coords t) = 1#1), Prog.pure_eq_ret]
  unfold bufs
  iintro ⟨Hm, HO, H1, H2, H3, H4, H5, H6, H7⟩ Hk
  iapply (wp_load_owned c (blkA m c t)) $$ H2
  iintro H2
  iapply (wp_chunkMid m c t arg1 arg2 arg3 arg4 arg5 arg6 arg7 harg7 (cut (blkA m c t) (Rect.unit (s := S512x16) ![0, 0] S512x16.size inb_S512x16_S512x16_0_0))
      (by rw [cut_zero _ zero2]; rfl) Y _ Q) $$ [Hm H1 H2 H3 H4 H5 H6 H7]
  · isplitl [Hm]; · iexact Hm
    unfold bufs
    isplitl [H1]; · iexact H1
    isplitl [H2]; · iexact H2
    isplitl [H3]; · iexact H3
    isplitl [H4]; · iexact H4
    isplitl [H5]; · iexact H5
    isplitl [H6]; · iexact H6
    iexact H7
  unfold bufs
  iintro ⟨Hm, Hb⟩
  iapply (runs_ret c Q)
  iapply Hk
  isplitl [Hm]; · iexact Hm
  isplitl [HO]; · iexists W; iexact HO
  iexact Hb

/-- The last point. -/
theorem wp_last (t : Fin grid0.N) (arg1 : Memref sig .tc .vmem S8x32x512 .bf16) (harg1 : arg1.IsWhole) (arg2 : Memref sig .tc .vmem S512x16 .bf16) (harg2 : arg2.IsWhole)
    (arg3 : Memref sig .tc .vmem S8x32x16 .bf16) (harg3 : arg3.IsWhole) (arg4 : Memref sig .tc .vmem S8x32x16 .bf16) (harg4 : arg4.IsWhole)
    (arg5 : Memref sig .tc .vmem S8x32x512 .bf16) (harg5 : arg5.IsWhole) (arg6 : Memref sig .tc .vmem S8x32x16 .bf16) (harg6 : arg6.IsWhole)
    (arg7 : Memref sig .tc .vmem S2x4x16x32x512 .bf16) (harg7 : arg7.IsWhole) (Y : S2x4x16x32x512.Idx → Elt F .bf16) (W : Waits sig Unit) (Q : PUnit → sProp 𝕄) (h15 : t.val = 15) :
    iprop(mid m c t.val ∗ owes (c : Thread nD τ) (Oex c) W ∗ bufs m c t arg1 arg2 arg3 arg4 arg5 arg6 arg7 Y)
      ⊢ iprop((done c ∗ (∃ W', owes (c : Thread nD τ) 0 W') ∗ bufs m c t arg1 arg2 arg3 arg4 arg5 arg6 arg7 (stored m c t Y) -∗ Q ⟨⟩)
          -∗ runs c (bodyOn t arg1 harg1 arg2 harg2 arg3 harg3 arg4 harg4 arg5 harg5 arg6 harg6 arg7 harg7) Q) := by
  have h4 : k0_cond4 (grid0.coords t) = 1#1 := (cond4_iff t).mpr h15
  unfold runs bodyOn
  rw [body_later (h1 := fun h => absurd ((cond1_iff t).mp h) (by omega))]
  unfold afterChunk
  rw [wp_deviceId]
  simp only [dif_pos h4]
  unfold bufs
  iintro ⟨Hm, HO, H1, H2, H3, H4, H5, H6, H7⟩ Hk
  iapply (wp_load_owned c (blkA m c t)) $$ H2
  iintro H2
  iapply (wp_chunkMid m c t arg1 arg2 arg3 arg4 arg5 arg6 arg7 harg7 (cut (blkA m c t) (Rect.unit (s := S512x16) ![0, 0] S512x16.size inb_S512x16_S512x16_0_0))
      (by rw [cut_zero _ zero2]; rfl) Y _ Q) $$ [Hm H1 H2 H3 H4 H5 H6 H7]
  · isplitl [Hm]; · iexact Hm
    unfold bufs
    isplitl [H1]; · iexact H1
    isplitl [H2]; · iexact H2
    isplitl [H3]; · iexact H3
    isplitl [H4]; · iexact H4
    isplitl [H5]; · iexact H5
    isplitl [H6]; · iexact H6
    iexact H7
  unfold bufs mid
  iintro ⟨⟨⟨%K, #HI⟩, Hrx, Hry, Hex, Hlev, Hz, Hs, Hr, Hc, Hy⟩, Hb⟩
  iapply (wp_exitBarrier m c K (grid0.coords t) h4 W Q) $$ [Hrx Hry Hex Hlev HO]
  · isplitr; · iexact HI
    isplitl [Hrx]; · iexact Hrx
    isplitl [Hry]; · iexact Hry
    isplitl [Hex]; · iexact Hex
    isplitl [Hlev]; · iexact Hlev
    iexact HO
  iintro ⟨HO, Hze⟩
  iapply Hk
  isplitl [Hz Hze Hs Hr Hc Hy]
  · unfold done scratch
    isplitl [Hz]; · iexact Hz
    isplitl [Hze]; · iexact Hze
    isplitl [Hs]; · iexact Hs
    isplitl [Hr]; · iexact Hr
    isplitl [Hc]; · iexists _; iexact Hc
    iexact Hy
  isplitl [HO]; · iexists _; iexact HO
  iexact Hb

/-- The body at any point, from the invariant before it to the invariant after it. -/
theorem wp_point (t : Fin grid0.N) (arg1 : Memref sig .tc .vmem S8x32x512 .bf16) (harg1 : arg1.IsWhole) (arg2 : Memref sig .tc .vmem S512x16 .bf16) (harg2 : arg2.IsWhole)
    (arg3 : Memref sig .tc .vmem S8x32x16 .bf16) (harg3 : arg3.IsWhole) (arg4 : Memref sig .tc .vmem S8x32x16 .bf16) (harg4 : arg4.IsWhole)
    (arg5 : Memref sig .tc .vmem S8x32x512 .bf16) (harg5 : arg5.IsWhole) (arg6 : Memref sig .tc .vmem S8x32x16 .bf16) (harg6 : arg6.IsWhole)
    (arg7 : Memref sig .tc .vmem S2x4x16x32x512 .bf16) (harg7 : arg7.IsWhole) (Y : S2x4x16x32x512.Idx → Elt F .bf16) (W : Waits sig Unit) (Q : PUnit → sProp 𝕄) :
    iprop(PhiAt m c t.val ∗ owes (c : Thread nD τ) (owedAt c t.val) W ∗ bufs m c t arg1 arg2 arg3 arg4 arg5 arg6 arg7 Y)
      ⊢ iprop((PhiAt m c (t.val + 1) ∗ (∃ W', owes (c : Thread nD τ) (owedAt c (t.val + 1)) W') ∗ bufs m c t arg1 arg2 arg3 arg4 arg5 arg6 arg7 (stored m c t Y) -∗ Q ⟨⟩)
          -∗ runs c (bodyOn t arg1 harg1 arg2 harg2 arg3 harg3 arg4 harg4 arg5 harg5 arg6 harg6 arg7 harg7) Q) := by
  have hN : t.val < 16 := by have := t.isLt; have := N_0; omega
  by_cases h0 : t.val = 0
  · rw [show PhiAt m c t.val = iprop(start m c ∗ scratch c) from if_pos h0, show owedAt c t.val = O₀ c from if_pos h0,
      show PhiAt m c (t.val + 1) = mid m c (t.val + 1) from (if_neg (Nat.succ_ne_zero _)).trans (if_neg (by omega)),
      show owedAt c (t.val + 1) = Oex c from (if_neg (Nat.succ_ne_zero _)).trans (if_neg (by omega))]
    exact BIBase.Entails.trans sep_assoc.1 (wp_first m c t arg1 harg1 arg2 harg2 arg3 harg3 arg4 harg4 arg5 harg5 arg6 harg6 arg7 harg7 Y W Q h0)
  · rw [show PhiAt m c t.val = mid m c t.val from (if_neg h0).trans (if_neg (by omega)),
      show owedAt c t.val = Oex c from (if_neg h0).trans (if_neg (by omega))]
    by_cases h15 : t.val = 15
    · rw [show PhiAt m c (t.val + 1) = done c from (if_neg (Nat.succ_ne_zero _)).trans (if_pos (by omega)),
        show owedAt c (t.val + 1) = 0 from (if_neg (Nat.succ_ne_zero _)).trans (if_pos (by omega))]
      exact wp_last m c t arg1 harg1 arg2 harg2 arg3 harg3 arg4 harg4 arg5 harg5 arg6 harg6 arg7 harg7 Y W Q h15
    · rw [show PhiAt m c (t.val + 1) = mid m c (t.val + 1) from (if_neg (Nat.succ_ne_zero _)).trans (if_neg (by omega)),
        show owedAt c (t.val + 1) = Oex c from (if_neg (Nat.succ_ne_zero _)).trans (if_neg (by omega))]
      exact wp_middle m c t arg1 harg1 arg2 harg2 arg3 harg3 arg4 harg4 arg5 harg5 arg6 harg6 arg7 harg7 Y W Q h0 h15

end Cert.KernelIdeal.Scan
-- ==== Proof.KernelIdealOblig.lean ====
/- The body obligation, and what the result array holds after the last point. -/
module

public import proofs.«01_k».proof.Proof.KernelIdealPoint
public import Idealize.ShloMosaic.Lib.Pipeline.ArrRel

@[expose] public section

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg cellOf)

variable {F : FTy → Type} [FloatOps F]

local notation "𝕄" => MT nD τ sig Unit (Elt F) ℕ UU ℕ

variable (m : (ℓ : Loc nD τ sig) → Buf (Elt F) ℓ) (c : Dev nD)

/-! ## Owing, within a bound that excludes nothing -/

theorem owesAt_elim (t : Fin (cfg0.N + 1)) :
    (rdat m c).owesAt () t ⊢ iprop(∃ W, owes (c : Thread nD τ) (owedAt c t.val) W) := by
  unfold RDat.owesAt Pipeline.owesWithin
  iintro ⟨%W, -, HO⟩; iexists W; iexact HO

theorem owesAt_intro (t : Fin (cfg0.N + 1)) :
    iprop(∃ W, owes (c : Thread nD τ) (owedAt c t.val) W) ⊢ (rdat m c).owesAt () t := by
  unfold RDat.owesAt Pipeline.owesWithin
  iintro ⟨%W, HO⟩; iexists W
  isplitr; · ipureintro; exact fun _ _ => Or.inl trivial
  iexact HO

/-! ## What the body is handed -/

section Found
variable (t : Fin cfg0.N)

theorem found0 (Y) (h : (rdat m c).Finds 0 t Y) : Y = blkX m c t := by
  obtain ⟨d, hd⟩ := RDat.finds_in_eq_fetched (rdat m c) 0 rfl (fun _ _ _ => rfl) (fun _ _ _ h => h) t Y h
  rw [hd]; rfl
theorem found1 (Y) (h : (rdat m c).Finds 1 t Y) : Y = blkA m c t := by
  obtain ⟨d, hd⟩ := RDat.finds_in_eq_fetched (rdat m c) 1 rfl (fun _ _ _ => rfl) (fun _ _ _ h => h) t Y h
  rw [hd]; rfl
theorem found2 (Y) (h : (rdat m c).Finds 2 t Y) : Y = blkB m c t := by
  obtain ⟨d, hd⟩ := RDat.finds_in_eq_fetched (rdat m c) 2 rfl (fun _ _ _ => rfl) (fun _ _ _ h => h) t Y h
  rw [hd]; rfl
theorem found3 (Y) (h : (rdat m c).Finds 3 t Y) : Y = blkC m c t := by
  obtain ⟨d, hd⟩ := RDat.finds_in_eq_fetched (rdat m c) 3 rfl (fun _ _ _ => rfl) (fun _ _ _ h => h) t Y h
  rw [hd]; rfl
theorem found4 (Y) (h : (rdat m c).Finds 4 t Y) : Y = tailX m c t := by
  obtain ⟨d, hd⟩ := RDat.finds_in_eq_fetched (rdat m c) 4 rfl (fun _ _ _ => rfl) (fun _ _ _ h => h) t Y h
  rw [hd]; rfl
theorem found5 (Y) (h : (rdat m c).Finds 5 t Y) : Y = tailB m c t := by
  obtain ⟨d, hd⟩ := RDat.finds_in_eq_fetched (rdat m c) 5 rfl (fun _ _ _ => rfl) (fun _ _ _ h => h) t Y h
  rw [hd]; rfl

end Found

set_option maxHeartbeats 1000000 in
/-- The body obligation. -/
theorem body_obligation : (rdat m c).BodyObligation defs₀ 𝒱₀ () Set.univ := fun t Y hY => by
  rw [bigSep_W0, bigSep_W0, found0 m c t _ (hY 0), found1 m c t _ (hY 1), found2 m c t _ (hY 2), found3 m c t _ (hY 3),
    found4 m c t _ (hY 4), found5 m c t _ (hY 5),
    show (rdat m c).Φ t.castSucc = PhiAt m c t.val from rfl, show (rdat m c).Φ t.succ = PhiAt m c (t.val + 1) from rfl]
  iintro ⟨HΦ, HO, H0, H1, H2, H3, H4, H5, H6⟩
  ihave HO := (owesAt_elim m c _) $$ HO
  icases HO with ⟨%W, HO⟩
  iapply (wp_point m c t (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (Y 6) W _) $$ [HΦ HO H0 H1 H2 H3 H4 H5 H6]
  · isplitl [HΦ]; · iexact HΦ
    isplitl [HO]; · iexact HO
    unfold bufs
    isplitl [H0]; · iexact H0
    isplitl [H1]; · iexact H1
    isplitl [H2]; · iexact H2
    isplitl [H3]; · iexact H3
    isplitl [H4]; · iexact H4
    isplitl [H5]; · iexact H5
    iexact H6
  unfold bufs
  iintro ⟨HΦ, HO, H0, H1, H2, H3, H4, H5, H6⟩
  isplitl [HΦ]; · iexact HΦ
  isplitl [HO]; · iapply (owesAt_intro m c t.succ); iexact HO
  isplitl [H0]; · iexists _; isplitr; · ipureintro; exact rfl
                  iexact H0
  isplitl [H1]; · iexists _; isplitr; · ipureintro; exact rfl
                  iexact H1
  isplitl [H2]; · iexists _; isplitr; · ipureintro; exact rfl
                  iexact H2
  isplitl [H3]; · iexists _; isplitr; · ipureintro; exact rfl
                  iexact H3
  isplitl [H4]; · iexists _; isplitr; · ipureintro; exact rfl
                  iexact H4
  isplitl [H5]; · iexists _; isplitr; · ipureintro; exact rfl
                  iexact H5
  iexists (stored m c t (Y 6))
  isplitr
  · ipureintro; exact fun h => good_succ m c t (Y 6) h
  iexact H6

/-! ## The result array -/

theorem flush_false (t : Fin cfg0.N) (h : t.val ≠ 15) : (cfg0.win 6).flush t = false := by
  rw [← Bool.not_eq_true]
  intro hf
  have := (flush0_6 t).mp hf
  have hN := t.isLt; have h16 : cfg0.N = 16 := N_0
  have : t.val < 16 := by omega
  omega

/-- What the result's buffer holds before chunk `t` is right so far. -/
theorem finds_good : ∀ (n : ℕ) (t : Fin cfg0.N), t.val = n → ∀ Y, (rdat m c).Finds 6 t Y → Good m c t.val Y
  | 0, t, ht, Y, _ => by rw [ht]; exact fun j _ h => absurd h (Nat.not_lt_zero _)
  | n + 1, t, ht, Y, hY => by
    have h0 : t.val ≠ 0 := by omega
    have hN : t.val < 16 := by have := t.isLt; have : cfg0.N = 16 := N_0; omega
    rcases ((rdat m c).finds_of_pos (w := 6) (t := t) rfl h0 Y).mp hY with hf | ⟨X, hX, hR⟩
    · rw [flush_false _ (by show t.val - 1 ≠ 15; omega)] at hf; exact absurd hf Bool.false_ne_true
    · have := hR (finds_good n ⟨t.val - 1, by omega⟩ (by show t.val - 1 = n; omega) X hX)
      have e : t.val - 1 + 1 = t.val := by omega
      rw [← e]; exact this

theorem wholeAt : (cfg0.win 6).WholeAt (pt 15) := by decide +kernel

/-- After the last point the result array is right on the device's half of the batches. -/
theorem out_good (G : S2x4x16x32x512.Idx → Elt F .bf16) (hG : (rdat m c).ArrAt 6 cfg0.N G) : Good m c 16 G := by
  obtain ⟨X, ⟨Y, hY, hR⟩, hA⟩ := RDat.ArrAt.emb_eq_of_wholeAt hG wholeAt
  have h : Good m c 16 X := hR (finds_good m c 15 (pt 15) rfl Y hY)
  intro j h0 h2
  rw [← h j h0 h2]
  exact hA j

end Cert.KernelIdeal.Scan
-- ==== Proof.KernelIdealLaunch.lean ====
/- The launch: the cells and the rights to pay them dealt to the devices, the region entered and left, the whole run. -/
module

public import proofs.«01_k».proof.Proof.KernelIdealOblig
public import Idealize.ShloMosaic.Lib.Quiescent

@[expose] public section

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg cellOf)

variable {F : FTy → Type} [FloatOps F]

local notation "𝕄" => MT nD τ sig Unit (Elt F) ℕ UU ℕ

/-! ## Cells and tokens as the launch lists them -/

/-- The four semaphores of a device that carry a protocol. -/
abbrev csem : Fin 4 → SemLoc sig := fun | 0 => .reg barS | 1 => .dma hsS | 2 => .dma hrS | 3 => .reg exitS
abbrev kc (ck : Dev nD × Fin 4) : GSem nD τ sig := ((ck.1 : Thread nD τ), csem ck.2)

theorem csem_inj : Function.Injective csem := by decide

theorem kc_inj : Function.Injective (kc : Dev nD × Fin 4 → GSem nD τ sig) := fun a b h =>
  Prod.ext (congrArg (fun g : GSem nD τ sig => g.1.1) h) (csem_inj (congrArg Prod.snd h))

def allCells : Finset (GSem nD τ sig) := Finset.univ.map ⟨kc, kc_inj⟩

/-- Which semaphore and which of its units each of the six rights to pay is for. -/
abbrev unitOf : Fin 6 → Fin 4 × Bool := fun | 0 => (0, true) | 1 => (0, false) | 2 => (1, false) | 3 => (2, false) | 4 => (3, true) | 5 => (3, false)
theorem unitOf_inj : Function.Injective unitOf := by decide
abbrev tk (cj : Dev nD × Fin 6) : GSem nD τ sig × ℕ × Bool := (kc (cj.1, (unitOf cj.2).1), 0, (unitOf cj.2).2)

theorem tk_inj : Function.Injective (tk : Dev nD × Fin 6 → GSem nD τ sig × ℕ × Bool) := fun a b h => by
  have h1 := kc_inj (congrArg Prod.fst h)
  have h2 : (unitOf a.2).2 = (unitOf b.2).2 := congrArg (fun x : GSem nD τ sig × ℕ × Bool => x.2.2) h
  have h3 : a.1 = b.1 := congrArg (fun x : Dev nD × Fin 4 => x.1) h1
  have h4 : (unitOf a.2).1 = (unitOf b.2).1 := congrArg (fun x : Dev nD × Fin 4 => x.2) h1
  exact Prod.ext h3 (unitOf_inj (Prod.ext h4 h2))

def allToks : Finset (GSem nD τ sig × ℕ × Bool) := Finset.univ.map ⟨tk, tk_inj⟩

theorem sum0 (Φ : Fin 0 → sProp 𝕄) : bigSep Finset.univ Φ = (BI.emp : sProp 𝕄) := bigSep_univ_eq_bigSepL [] (by decide) (by decide) Φ
theorem sum4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem sum6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem cells_eq (Φ : GSem nD τ sig → sProp 𝕄) :
    bigSep allCells Φ = bigSep Finset.univ fun c : Dev nD => iprop(Φ (barCell c) ∗ Φ (hsCell c) ∗ Φ (hrCell c) ∗ Φ (exCell c)) := by
  unfold allCells; rw [bigSep_map, bigSep_univ_prod]
  exact bigSep_congr fun c _ => by rw [sum4]; rfl

/-- The rights to pay a device's own cells, and those that the device itself has. -/
def ownToks (c : Dev nD) : sProp 𝕄 :=
  iprop(dutyTok ER (barCell c) 0 true ∗ dutyTok ER (barCell c) 0 false ∗ dutyTok ER (hsCell c) 0 false ∗ dutyTok ER (hrCell c) 0 false
    ∗ dutyTok ER (exCell c) 0 true ∗ dutyTok ER (exCell c) 0 false)
def payToks (c : Dev nD) : sProp 𝕄 :=
  iprop(dutyTok ER (barCell (xp c)) 0 true ∗ dutyTok ER (barCell (yp c)) 0 false ∗ dutyTok ER (hsCell c) 0 false ∗ dutyTok ER (hrCell (xp c)) 0 false
    ∗ dutyTok ER (exCell (xp c)) 0 true ∗ dutyTok ER (exCell (yp c)) 0 false)

theorem toks_eq : bigSep allToks (fun x => (dutyTok ER x.1 x.2.1 x.2.2 : sProp 𝕄)) = bigSep Finset.univ fun c : Dev nD => ownToks c := by
  unfold allToks; rw [bigSep_map, bigSep_univ_prod]
  exact bigSep_congr fun c _ => by unfold ownToks; rw [sum6]; rfl

theorem toks_cross : (bigSep Finset.univ fun c : Dev nD => (ownToks c : sProp 𝕄)) ⊢ bigSep Finset.univ fun c : Dev nD => payToks c := by
  unfold ownToks payToks
  simp only [bigSep_sep']
  rw [bigSep_univ_equiv xpE (fun c : Dev nD => (dutyTok ER (barCell c) 0 true : sProp 𝕄)),
    bigSep_univ_equiv ypE (fun c : Dev nD => (dutyTok ER (barCell c) 0 false : sProp 𝕄)),
    bigSep_univ_equiv xpE (fun c : Dev nD => (dutyTok ER (hrCell c) 0 false : sProp 𝕄)),
    bigSep_univ_equiv xpE (fun c : Dev nD => (dutyTok ER (exCell c) 0 true : sProp 𝕄)),
    bigSep_univ_equiv ypE (fun c : Dev nD => (dutyTok ER (exCell c) 0 false : sProp 𝕄))]
  exact .rfl

theorem with_persistent {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

/-! ## What each device is credited -/

theorem cell_eq_iff {a b : Dev nD} {s t : SemLoc sig} :
    ((((a : Thread nD τ), s) : GSem nD τ sig) = ((b : Thread nD τ), t)) ↔ a = b ∧ s = t :=
  ⟨fun h => ⟨congrArg (fun g : GSem nD τ sig => g.1.1) h, congrArg Prod.snd h⟩, fun h => by rw [h.1, h.2]⟩

/-- What `d` owes at a semaphore of `c`, by which of its units these are. -/
theorem owed_at (d c : Dev nD) (s : SemLoc sig) :
    O₀ d ((c : Thread nD τ), s) () = (if c = yp d ∧ s = .reg exitS then 1 else 0) + (if c = xp d ∧ s = .reg exitS then 1 else 0)
      + (if c = xp d ∧ s = .dma hrS then (if First d then NN else 0) else 0)
      + (if c = yp d ∧ s = .reg barS then 1 else 0) + (if c = xp d ∧ s = .reg barS then 1 else 0) := by
  unfold O₀ Osend Oex
  simp only [Pi.add_apply, Finsupp.add_apply, tallyAt_apply, cell_eq_iff, and_true]

theorem sum_two (c : Dev nD) : (∑ d : Dev nD, ((if c = yp d then 1 else 0) + (if c = xp d then 1 else 0)) : ℕ) = 2 := by
  revert c; decide

theorem credit_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, ← sum_two c]
  refine Finset.sum_congr rfl fun d _ => ?_
  rw [owed_at]
  simp only [ex_ne_bar.symm, hr_ne_bar.symm, and_false, and_true, if_false, Nat.zero_add]

theorem credit_ex (c : Dev nD) :
    tallyOn (exCell c) (launchCredit (Pipeline.owing O₀) 0 (exCell c)) = (tallyAt (exCell c) () 2 : CellTallies nD τ sig Unit) := by
  unfold tallyAt; refine congrArg _ (Finsupp.ext fun u => ?_); cases u
  rw [Pipeline.launchCredit_owing, Finsupp.single_eq_same, ← sum_two c]
  refine Finset.sum_congr rfl fun d _ => ?_
  rw [owed_at]
  simp only [ex_ne_bar, hr_ne_ex.symm, and_false, and_true, if_false, Nat.add_zero]

theorem credit_hr (c : Dev nD) :
    tallyOn (hrCell c) (launchCredit (Pipeline.owing O₀) 0 (hrCell c))
      = (tallyAt (hrCell c) () (if First c then 0 else NN) : CellTallies nD τ sig Unit) := by
  unfold tallyAt; refine congrArg _ (Finsupp.ext fun u => ?_); cases u
  rw [Pipeline.launchCredit_owing, Finsupp.single_eq_same, Finset.sum_eq_single (xp c)]
  · rw [owed_at, xp_xp]
    simp only [hr_ne_bar, hr_ne_ex, and_false, and_true, if_true, if_false, Nat.add_zero, Nat.zero_add]
    by_cases h : First c
    · rw [if_neg (fun h' => (first_xp c).mp h' h), if_pos h]
    · rw [if_pos ((first_xp c).mpr h), if_neg h]
  · intro d _ hd
    have hc : c ≠ xp d := fun h => hd (by rw [h, xp_xp])
    rw [owed_at]
    simp only [hr_ne_bar, hr_ne_ex, hc, and_false, false_and, if_false, Nat.add_zero]
  · exact fun h => absurd (Finset.mem_univ _) h

theorem creds (c : Dev nD) :
    (Pipeline.launchCred O₀ c : sProp 𝕄) ⊢ iprop(cred (tallyAt (barCell c) () 2) ∗ cred (tallyAt (exCell c) () 2)
      ∗ cred (tallyAt (hrCell c) () (if First c then 0 else NN))) := by
  rw [← credit_bar, ← credit_ex, ← credit_hr]
  unfold Pipeline.launchCred
  rw [bigSep_univ_at _ (SemLoc.reg barS)]
  refine sep_mono_right ?_
  rw [bigSep_erase (Finset.mem_erase.mpr ⟨ex_ne_bar, Finset.mem_univ (SemLoc.reg exitS : SemLoc sig)⟩)]
  exact sep_mono_right (bigSep_elim (Finset.mem_erase.mpr ⟨hr_ne_ex, Finset.mem_erase.mpr ⟨hr_ne_bar, Finset.mem_univ _⟩⟩))

section Region

variable (m : (ℓ : Loc nD τ sig) → Buf (Elt F) ℓ) (ρ : Dev nD → PrngReg)

/-! ## The launch element, and what it deals each device -/

abbrev adm : (p : Fin 1) → (pcfgs (F := F) p).Adm := fun p => (cfgs p).toPCfg_adm

def rdats : (p : Fin 1) → (c : Dev nD) → RDat τ (Elt F) Unit ℕ UU ℕ (Pipeline.pin (pcfgs (F := F)) adm p) c
  | 0 => rdat m

/-- Every cell of the exchange is funded before its counter is at hand: each device opens its own when it may. -/
def u₀ : UU :=
  (initOf (Pipeline.cells (Pipeline.pin (pcfgs (F := F)) adm) cellOf_inj) (Pipeline.launchToks (Pipeline.pin (pcfgs (F := F)) adm) cellOf_inj),
    launchOf ∅ allCells allToks)

/-- The rights to open the three cells that the region brings. -/
def opens (c : Dev nD) : sProp 𝕄 := iprop(openTok ER (hsCell c) ∗ openTok ER (hrCell c) ∗ openTok ER (exCell c))

/-- What the launch deals a device. -/
def dealt (c : Dev nD) : sProp 𝕄 := iprop((∃ K, invs m c K) ∗ (openTok ER (barCell c) ∗ opens c) ∗ payToks c)

theorem invs_intro (κ : GSem nD τ sig → ℕ) (c : Dev nD) :
    (bigSep allCells fun g => (cellInv ER (rd (tl m)) (κ g) g : sProp 𝕄)) ⊢ invs m c κ := by
  have h : ∀ ck : Dev nD × Fin 4, (bigSep allCells fun g => (cellInv ER (rd (tl m)) (κ g) g : sProp 𝕄))
      ⊢ cellInv ER (rd (tl m)) (κ (kc ck)) (kc ck) := fun ck =>
    bigSep_elim (Finset.mem_map.mpr ⟨ck, Finset.mem_univ _, rfl⟩)
  unfold invs
  iintro #H
  isplitr; · iapply (h (c, 0)); iexact H
  isplitr; · iapply (h (c, 1)); iexact H
  isplitr; · iapply (h (c, 2)); iexact H
  isplitr; · iapply (h (c, 3)); iexact H
  isplitr; · iapply (h (xp c, 0)); iexact H
  isplitr; · iapply (h (yp c, 0)); iexact H
  isplitr; · iapply (h (xp c, 2)); iexact H
  isplitr; · iapply (h (xp c, 3)); iexact H
  iapply (h (yp c, 3)); iexact H

theorem deal (κ : GSem nD τ sig → ℕ) :
    iprop((bigSep allCells fun g => (cellInv ER (rd (tl m)) (κ g) g : sProp 𝕄))
      ∗ (bigSep Finset.univ fun c : Dev nD => iprop(openTok ER (barCell c) ∗ opens c)) ∗ (bigSep Finset.univ fun c : Dev nD => payToks c))
    ⊢ bigSep Finset.univ (dealt m) := by
  rw [← bigSep_sep']
  refine with_persistent fun c => ?_
  unfold dealt
  iintro ⟨#HI, Ho, Ht⟩
  isplitr
  · iexists κ; iapply (invs_intro m κ c); iexact HI
  isplitl [Ho]; · iexact Ho
  iexact Ht

theorem fund : (ownU (u₀ (F := F)) : sProp 𝕄)
    ⊢ |={Set.univ}=> iprop(BI.own (EP (initOf (Pipeline.cells (Pipeline.pin (pcfgs (F := F)) adm) cellOf_inj)
        (Pipeline.launchToks (Pipeline.pin (pcfgs (F := F)) adm) cellOf_inj))) ∗ bigSep Finset.univ (dealt m)) := by
  unfold u₀
  iintro Hu
  ihave H := (ownU_pair _ _) $$ Hu
  icases H with ⟨HP, HX⟩
  imod (Rounds.fund_launch ER (rd (tl m)) (S := ∅) (Sd := allCells) (Finset.disjoint_empty_left _) (fun _ _ h => h) allToks) $$ [HX] with ⟨%κ, -, #Hinv, -, -, Hopen, Htok⟩
  · isplitr; · rw [bigSep_empty]; iempintro
    iexact HX
  rw [Finset.empty_union]
  ihave Hopen' := (Entails.of_eq (cells_eq (F := F) fun g => openTok ER g)) $$ Hopen
  ihave Htok' := ((Entails.of_eq (toks_eq (F := F))).trans toks_cross) $$ Htok
  imodintro
  isplitl [HP]; · iexact HP
  iapply (deal m κ)
  isplitr; · iexact Hinv
  isplitl [Hopen']; · unfold opens; iexact Hopen'
  iexact Htok'

/-! ## The thread state before the region and after it -/

theorem unscopedSems0_eq (c : Dev nD) : (unscopedSems0 c : sProp 𝕄) = semVal (barCell c) 0 := by
  unfold unscopedSems0; rw [bigSep_eq_bigSepL_of_eq [SemLoc.reg barS] (by decide) (by decide)]; rfl

theorem ownSems0_eq (c : Dev nD) : (Pipeline.ownSems0 (Ix := Unit) (Name := ℕ) (U := UU) (Lvl := ℕ) (Val := Elt F) (τ := τ) osem c : sProp 𝕄)
    = iprop(semVal (hsCell c) 0 ∗ semVal (hrCell c) 0 ∗ semVal (exCell c) 0) := by
  rw [Pipeline.ownSems0_eq_of_list c osem [0, 1, 2] (by decide) (by decide)]; rfl

theorem ownSemFacts : Pipeline.OwnSemFacts cfg0.spec osem := by decide

/-- What the launch has made ready of the exchange. -/
def ready (c : Dev nD) : sProp 𝕄 :=
  iprop((∃ K, invs m c K) ∗ (reached ER (barCell (xp c)) 0 ∗ reached ER (barCell (yp c)) 0) ∗ atPos ER (barCell c) 0 ∅ 0
    ∗ opens c ∗ payToks c
    ∗ (cred (tallyAt (barCell c) () 2) ∗ cred (tallyAt (exCell c) () 2) ∗ cred (tallyAt (hrCell c) () (if First c then 0 else NN))))

def T₀ (c : Dev nD) : sProp 𝕄 :=
  iprop(unscopedBufs c (fun b => m ((c : Thread nD τ).loc b)) ∗ ready m c ∗ owes (c : Thread nD τ) (O₀ c) ∅)

def Tₙ (c : Dev nD) : sProp 𝕄 := iprop((rdats m 0 c).arraysAt cfg0.N ∗ semVal (barCell c) 0)

theorem core_open (c : Dev nD) :
    iprop(unscopedBufs c (fun b => m ((c : Thread nD τ).loc b)) ∗ unscopedSems0 c
          ∗ owes (c : Thread nD τ) (O₀ c) ∅ ∗ Pipeline.launchCred O₀ c ∗ prngReg c (ρ c) ∗ dealt m c)
      ⊢ (|={Set.univ}=> iprop(reached ER (barCell c) 0 ∗ (unscopedBufs c (fun b => m ((c : Thread nD τ).loc b)) ∗ (∃ K, invs m c K)
          ∗ atPos ER (barCell c) 0 ∅ 0 ∗ opens c ∗ payToks c
          ∗ (cred (tallyAt (barCell c) () 2) ∗ cred (tallyAt (exCell c) () 2) ∗ cred (tallyAt (hrCell c) () (if First c then 0 else NN)))
          ∗ owes (c : Thread nD τ) (O₀ c) ∅)) : sProp 𝕄) := by
  rw [unscopedSems0_eq]
  unfold dealt
  iintro ⟨Hb, Hs, HO, Hcr, -, ⟨%K, #HI⟩, ⟨Hob, Hop⟩, Htok⟩
  ihave Hc := (creds (F := F) c) $$ Hcr
  ihave #HIb := (show invs m c K ⊢ cellInv ER (rd (tl m)) (K (barCell c)) (barCell c) from by unfold invs; iintro ⟨H, -⟩; iexact H) $$ HI
  imod (Rounds.cell_open ER (rd (tl m)) (κ := K (barCell c)) (g := barCell c) (Es := Set.univ) (Set.mem_univ _)) $$ [Hob Hs] with ⟨Hat, Hr⟩
  · isplitr; · iexact HIb
    isplitl [Hob] <;> iassumption
  imodintro
  isplitl [Hr]; · iexact Hr
  isplitl [Hb]; · iexact Hb
  isplitr; · iexists K; iexact HI
  isplitl [Hat]; · iexact Hat
  isplitl [Hop]; · iexact Hop
  isplitl [Htok]; · iexact Htok
  isplitl [Hc]; · iexact Hc
  iexact HO

theorem ready_intro (c : Dev nD) :
    iprop((bigSep Finset.univ fun c : Dev nD => (reached ER (barCell c) 0 : sProp 𝕄))
        ∗ (unscopedBufs c (fun b => m ((c : Thread nD τ).loc b)) ∗ (∃ K, invs m c K)
          ∗ atPos ER (barCell c) 0 ∅ 0 ∗ opens c ∗ payToks c
          ∗ (cred (tallyAt (barCell c) () 2) ∗ cred (tallyAt (exCell c) () 2) ∗ cred (tallyAt (hrCell c) () (if First c then 0 else NN)))
          ∗ owes (c : Thread nD τ) (O₀ c) ∅)) ⊢ T₀ m c := by
  have hr : ∀ d : Dev nD, (bigSep Finset.univ fun c : Dev nD => (reached ER (barCell c) 0 : sProp 𝕄)) ⊢ reached ER (barCell d) 0 :=
    fun d => bigSep_elim (Finset.mem_univ d)
  unfold T₀ ready
  iintro ⟨#HR, Hb, HI, Hat, Hop, Htok, Hc, HO⟩
  isplitl [Hb]; · iexact Hb
  isplitr [HO]
  · isplitl [HI]; · iexact HI
    isplitr
    · isplitr
      · iapply (hr (xp c)); iexact HR
      · iapply (hr (yp c)); iexact HR
    isplitl [Hat]; · iexact Hat
    isplitl [Hop]; · iexact Hop
    isplitl [Htok] <;> iassumption
  · iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ dealt m c)) ∗ levAts L lv)
      ⊢ (|={Set.univ}=> bigSep Finset.univ (T₀ m) : sProp 𝕄) := by
  refine (sep_mono_left ((bigSep_mono fun c _ => core_open m ρ c).trans (bigSep_fupd _ _))).trans ?_
  iintro ⟨H, -⟩
  imod H with H
  ihave H := (Entails.of_eq (bigSep_sep' _ _ _)) $$ H
  icases H with ⟨#HR, H⟩
  imodintro
  iapply (with_persistent (ready_intro m)) $$ [H]
  isplitr; · iexact HR
  iexact H

/-! ## The region -/

theorem pref_emp (c : Dev nD) (q) (pf) :
    (Pipeline.prefHeld (Ix := Unit) (Name := ℕ) (U := UU) (Lvl := ℕ) (Val := Elt F) (pcfgs (F := F) 0).pre c q pf : sProp 𝕄) = BI.emp :=
  sum0 _

theorem arrays_intro (c : Dev nD) :
    unscopedBufs c (fun b => m ((c : Thread nD τ).loc b)) ⊢ ((rdats m 0 c).arrays (rdats m 0 c).A : sProp 𝕄) := by
  refine (Entails.of_eq (Pipeline.unscopedBufs_split₀ cfgs (0 : Fin 1) (by decide) c fun b => m ((c : Thread nD τ).loc b))).trans ?_
  iintro ⟨H, -⟩
  iapply (RDat.arrays_split_shared (rdats m 0 c) sharedIn0 arr_whole0 (fun _ _ => rfl) (fun b => m ((c : Thread nD τ).loc b)) _ fun w => by
    fin_cases w <;> rfl)
  iexact H

/-- The region's own cells opened. -/
theorem start_intro (c : Dev nD) :
    iprop(ready m c ∗ (semVal (hsCell c) 0 ∗ semVal (hrCell c) 0 ∗ semVal (exCell c) 0) ∗ levAts L lv)
      ⊢ (|={Set.univ}=> start m c : sProp 𝕄) := by
  unfold ready opens payToks
  iintro ⟨⟨⟨%K, #HI⟩, ⟨#Hrx, #Hry⟩, Hat, ⟨Hos, Hor, Hoe⟩, ⟨T1, T2, T3, T4, T5, T6⟩, C1, C2, C3⟩, ⟨Hs, Hr, He⟩, Hl⟩
  ihave HI' := (show invs m c K ⊢ iprop(cellInv ER (rd (tl m)) (K (hsCell c)) (hsCell c) ∗ cellInv ER (rd (tl m)) (K (hrCell c)) (hrCell c)
      ∗ cellInv ER (rd (tl m)) (K (exCell c)) (exCell c)) from by
    unfold invs; iintro ⟨-, H1, H2, H3, -⟩
    isplitl [H1]; · iexact H1
    isplitl [H2] <;> iassumption) $$ HI
  icases HI' with ⟨#I1, #I2, #I3⟩
  imod (Rounds.cell_open ER (rd (tl m)) (κ := K (hsCell c)) (g := hsCell c) (Es := Set.univ) (Set.mem_univ _)) $$ [Hos Hs] with ⟨A1, R1⟩
  · isplitr; · iexact I1
    isplitl [Hos] <;> iassumption
  imod (Rounds.cell_open ER (rd (tl m)) (κ := K (hrCell c)) (g := hrCell c) (Es := Set.univ) (Set.mem_univ _)) $$ [Hor Hr] with ⟨A2, R2⟩
  · isplitr; · iexact I2
    isplitl [Hor] <;> iassumption
  imod (Rounds.cell_open ER (rd (tl m)) (κ := K (exCell c)) (g := exCell c) (Es := Set.univ) (Set.mem_univ _)) $$ [Hoe He] with ⟨A3, R3⟩
  · isplitr; · iexact I3
    isplitl [Hoe] <;> iassumption
  imodintro
  unfold start marks entryToks exitToks
  isplitr; · iexists K; iexact HI
  isplitl [R1 R2 R3]
  · isplitr; · iexact Hrx
    isplitr; · iexact Hry
    isplitl [R1]; · iexact R1
    isplitl [R2] <;> iassumption
  isplitl [T1 T2 T3 T4 Hat A1 A2 C1 C3]
  · isplitl [T1]; · iexact T1
    isplitl [T2]; · iexact T2
    isplitl [T3]; · iexact T3
    isplitl [T4]; · iexact T4
    isplitl [Hat]; · iexact Hat
    isplitl [A1]; · iexact A1
    isplitl [A2]; · iexact A2
    isplitl [C1] <;> iassumption
  isplitl [T5 T6 A3 C2]
  · isplitl [T5]; · iexact T5
    isplitl [T6]; · iexact T6
    isplitl [A3] <;> iassumption
  iexact Hl

theorem scratch_eq (c : Dev nD) :
    (Pipeline.scopedRest (Ix := Unit) (Name := ℕ) (U := UU) (Lvl := ℕ) (Val := Elt F) spec0 c : sProp 𝕄) = scratch c := by
  have h2 : ∀ f, owns (c : Thread nD τ) carM fullShare f = (((c : Thread nD τ).loc cc0_scratch2) ↦{fullShare} f : sProp 𝕄) := fun f => by apply owns_whole
  have h3 : ∀ f, owns (c : Thread nD τ) ybufM fullShare f = (((c : Thread nD τ).loc cc0_scratch3) ↦{fullShare} f : sProp 𝕄) := fun f => by apply owns_whole
  rw [scopedRest0_eq]; unfold scratch
  simp only [sPts_eq, rPts_eq, h2, h3]
  rfl

theorem stage_ne : ∀ (w : Fin cfg0.W) (s : Fin (cfg0.win w).nbuf), (SemLoc.dma ((cfg0.win w).sem s) : SemLoc sig) ≠ .dma hrS := by decide

theorem stage_waits (c : Dev nD) (q : DmaSem sig) (hq : SemLoc.dma q ≠ .dma hrS) (n : ℕ) :
    (levAts L lv : sProp 𝕄) ⊢ MayWait (c : Thread nD τ) (.dma q) () (owedAt c n) := by
  refine mayWait_of (n := 0) ?_ (by unfold lv; rw [if_neg (fun h => by cases h), if_neg hq, if_neg (fun h => by cases h)])
  unfold owedAt
  split
  · exact above_O₀ c
  · split
    · exact above_zero 0
    · exact (above_Oex c).mono (by decide)

theorem owes_last (c : Dev nD) :
    (rdats m 0 c).owesAt () (Fin.last (Pipeline.pin (pcfgs (F := F)) adm 0).N) ⊢ iprop(∃ W, owes (c : Thread nD τ) (0 : CellTallies nD τ sig Unit) W) := by
  have h := owesAt_elim m c (Fin.last cfg0.N)
  rw [show owedAt c (Fin.last cfg0.N).val = 0 from rfl] at h
  exact h

def reg : RDat.RegionSeg (pcfgs (F := F)) adm (rdats m) () defs₀ 𝒱₀ L lv 0 where
  win := winFacts₀0
  block_pos := block_pos0
  stage_whole := stage_whole0
  K := Fin 3
  osem := osem
  ho := ownSemFacts
  hbody c := body_obligation m c
  hwaits c := RDat.cellsWaits_intro _ (rdats m) () 0 c fun w s t =>
    stage_waits c _ (stage_ne w s) t.val
  pre c := T₀ m c
  post c := iprop(Tₙ m c ∗ ∃ W, owes (c : Thread nD τ) (0 : CellTallies nD τ sig Unit) W)
  X c := start m c
  Y c := semVal (barCell c) 0
  Z _ := iprop(emp)
  hentry c := by
    rw [ownSems0_eq, pref_emp]
    unfold T₀
    iintro ⟨⟨Hb, Hr, HO⟩, Hs, Hl⟩
    imod (start_intro m c) $$ [Hr Hs Hl] with HS
    · isplitl [Hr]; · iexact Hr
      isplitl [Hs] <;> iassumption
    imodintro
    isplitl [Hb]; · iapply (arrays_intro m c); iexact Hb
    isplitr; · iempintro
    isplitl [HO]
    · iapply (owesAt_intro m c 0); iexists ∅; iexact HO
    isplitl [HS]; · iexact HS
    iempintro
  hin c := by
    rw [show (rdats m 0 c).Φ 0 = iprop(start m c ∗ scratch c) from rfl, pref_emp]
    iintro ⟨HS, -, HR⟩
    isplitl [HS]; · iexact HS
    iapply (Entails.of_eq (scratch_eq (F := F) c)); iexact HR
  hout c := by
    rw [show (rdats m 0 c).Φ (Fin.last _) = done c from rfl, ownSems0_eq]
    unfold done sems3
    iintro ⟨⟨HB, HS, HR⟩, HE, Hsc⟩
    isplitl [HB]; · iexact HB
    isplitl [HS HR HE]
    · isplitl [HS]; · iexact HS
      isplitl [HR] <;> iassumption
    iapply (Entails.of_eq (scratch_eq (F := F) c).symm); iexact Hsc
  hexit c := by
    iintro ⟨HA, HO, HY, -⟩
    imodintro
    isplitl [HA HY]
    · unfold Tₙ; isplitl [HA] <;> iassumption
    · iapply (owes_last m c); iexact HO

def segs : List (RDat.Seg (pcfgs (F := F)) adm (rdats m) () defs₀ 𝒱₀ L lv) := [.region (reg m)]

theorem main_run (c : Dev nD) : main (F := F) c = RDat.Seg.run (segs m) := by
  simp only [segs, RDat.Seg.run]
  rfl

/-! ## The run -/

/-- What the run leaves: the arguments unchanged, the result good in every block that is written. -/
def Left (c : Dev nD) (s : MemSt nD τ sig (Elt F)) : Prop :=
  (∀ b : Ref sig .tc, b = main_arg0 ∨ b = main_arg1 ∨ b = main_arg2 ∨ b = main_arg3 → s.mem ((c : Thread nD τ).loc b) = m ((c : Thread nD τ).loc b))
    ∧ Good m c 16 (s.mem ((c : Thread nD τ).loc main_v1))

theorem left_of_arrays (c : Dev nD) (s : MemSt nD τ sig (Elt F))
    (h : ∀ w, (rdats m 0 c).ArrAt w cfg0.N (s.mem ((cfg0.win w).arr.view.loc (c : Thread nD τ)))) : Left m c s := by
  have hin : ∀ w, (cfg0.win w).isOut = false →
      s.mem ((cfg0.win w).arr.view.loc (c : Thread nD τ)) = m ((cfg0.win w).arr.view.loc (c : Thread nD τ)) := fun w hw => by
    have := h w; rw [RDat.ArrAt_in _ w hw] at this; exact this
  refine ⟨?_, out_good m c _ (h 6)⟩
  rintro b (rfl | rfl | rfl | rfl)
  exacts [hin 0 rfl, hin 1 rfl, hin 2 rfl, hin 3 rfl]

set_option backward.isDefEq.respectTransparency.types false in
/-- Every weakly fair run terminates; it leaves the arguments unchanged, the result good and every counter at zero. -/
theorem run_main : θ_run defs (onTc (τ := τ) (main (F := F))) ⟨m, fun _ => 0, ρ⟩
    (fun r => (∀ c : Dev nD, Left m c r.2) ∧ r.2.sem = fun _ => 0) :=
  RDat.θ_run_regions_kit_sems (pcfgs (F := F)) adm (rdats m) () cellOf_inj EP defs₀ 𝒱₀ L lv m ρ main (segs m)
    (fun c Q => by rw [main_run m c])
    (by simp only [segs, RDat.Seg.pipes_region, RDat.Seg.pipes_nil]; decide)
    (O₀ := O₀) (hL := L_of_ne) (G := dealt m) (u₀ := u₀)
    (hu₀ := fund m) (T₀ := T₀ m) (Tₙ := Tₙ m)
    (hch := ⟨fun c => .rfl, fun c => .rfl⟩)
    (hinit := init m ρ)
    (QY := fun c s => Left m c s ∧ s.sem (barCell c) = 0)
    (hfin := fun c s' => by
      unfold Tₙ
      iintro ⟨⟨HA, HB⟩, HSI⟩
      icombine HSI HB gives %hb
      ihave H := (RDat.arrays_read (pcfgs (F := F)) adm (rdats m) (p := 0) arr_whole0 c cfg0.N s') $$ [HA HSI]
      · isplitl [HA] <;> iassumption
      icases H with ⟨%hA, HSI⟩
      imodintro
      isplitr
      · ipureintro; exact ⟨left_of_arrays m c s'.mem hA, by simpa using hb⟩
      iexact HSI)
    (hQ := fun s h hs => ⟨fun c => (h c).1, sem_eq_zero hs fun c sm hsm => by
      obtain rfl : sm = .reg barS := by revert sm; decide
      exact (h c).2⟩)

end Region

end Cert.KernelIdeal.Scan
-- ==== Proof.Recur.lean ====
/- The recurrence `h ← h·e + u` of one channel over the steps, restarted at step 512 from the state of the 32 steps before. -/
module

public import Idealize.ShloMosaic.Lib.Pointwise

@[expose] public section

noncomputable section

namespace Cert.Recur

/-- The state after `n` steps that start from `h`, with decay `e` and inputs `u`. -/
def run (e : EReal) (u : ℕ → EReal) (h : EReal) : ℕ → EReal
  | 0 => h
  | n + 1 => run e u h n * e + u n

/-- The second state: the recurrence from zero, set to zero again before step 480. -/
def gAt (e : EReal) (u : ℕ → EReal) : ℕ → EReal
  | 0 => 0
  | t + 1 => (if t = 480 then 0 else gAt e u t) * e + u t

/-- The state: the recurrence from zero, replaced before step 512 by the second state. -/
def hAt (e : EReal) (u : ℕ → EReal) : ℕ → EReal
  | 0 => 0
  | t + 1 => (if t = 512 then gAt e u t else hAt e u t) * e + u t

theorem run_congr {e : EReal} {u v : ℕ → EReal} {h : EReal} : ∀ n, (∀ k, k < n → u k = v k) → run e u h n = run e v h n
  | 0, _ => rfl
  | n + 1, hk => by
    show run e u h n * e + u n = run e v h n * e + v n
    rw [run_congr n fun k hkn => hk k (by omega), hk n (by omega)]

/-- Running on: `a` steps, then `n` more. -/
theorem run_add (e : EReal) (u : ℕ → EReal) (h : EReal) (a : ℕ) : ∀ n, run e (fun k => u (a + k)) (run e u h a) n = run e u h (a + n)
  | 0 => rfl
  | n + 1 => by
    show run e (fun k => u (a + k)) (run e u h a) n * e + u (a + n) = run e u h (a + n) * e + u (a + n)
    rw [run_add e u h a n]

/-- Up to step 512 the state is the plain recurrence. -/
theorem hAt_first (e : EReal) (u : ℕ → EReal) : ∀ n, n ≤ 512 → hAt e u n = run e u 0 n
  | 0, _ => rfl
  | n + 1, hn => by
    show (if n = 512 then gAt e u n else hAt e u n) * e + u n = run e u 0 n * e + u n
    rw [if_neg (by omega), hAt_first e u n (by omega)]

/-- After step 480 the second state is the recurrence from zero there. -/
theorem gAt_tail (e : EReal) (u : ℕ → EReal) : ∀ n, gAt e u (480 + (n + 1)) = run e (fun k => u (480 + k)) 0 (n + 1)
  | 0 => by
    show (if 480 = 480 then (0 : EReal) else gAt e u 480) * e + u 480 = 0 * e + u (480 + 0)
    rw [if_pos rfl]
  | n + 1 => by
    show (if 480 + (n + 1) = 480 then (0 : EReal) else gAt e u (480 + (n + 1))) * e + u (480 + (n + 1)) = _
    rw [if_neg (by omega), gAt_tail e u n]
    rfl

/-- After step 512 the state is the recurrence from the second state there. -/
theorem hAt_second (e : EReal) (u : ℕ → EReal) :
    ∀ n, hAt e u (512 + (n + 1)) = run e (fun k => u (512 + k)) (run e (fun k => u (480 + k)) 0 32) (n + 1)
  | 0 => by
    show (if 512 = 512 then gAt e u 512 else hAt e u 512) * e + u 512 = _
    rw [if_pos rfl, show gAt e u 512 = _ from gAt_tail e u 31]
    rfl
  | n + 1 => by
    show (if 512 + (n + 1) = 512 then gAt e u (512 + (n + 1)) else hAt e u (512 + (n + 1))) * e + u (512 + (n + 1)) = _
    rw [if_neg (by omega), hAt_second e u n]
    rfl

end Cert.Recur

end
-- ==== Proof.KernelIdealValue.lean ====
/- What the kernel writes, over the extended reals, element by element. -/
module

public import proofs.«01_k».proof.Proof.KernelIdealLaunch
public import proofs.«01_k».proof.Proof.Recur
public import Idealize.ShloMosaic.Lib.Pipeline.ValueKit

@[expose] public section

noncomputable section

namespace Cert.KernelIdeal.Scan

open Cert.KernelIdeal Cert.KernelIdeal.Gen
open Idealize.ShloMosaic Idealize.ShloMosaic.TcCoe
open Cert.Recur

/-! ## One step at an index -/

theorem xrow_at (X : FVec Ideal S4x32x512 .bf16) (s : Fin 32) (b : Fin 4) (d : Fin 512) :
    xrow X s (ix3 b 0 d) = X (ix3 b s d) := by
  pointwise [xrow]

theorem bcol_at (B : FVec Ideal S4x32x16 .bf16) (s : Fin 32) (b : Fin 4) (n : Fin 16) :
    bcol B s (ix2 b n) = B (ix3 b s n) := by
  pointwise [bcol]

theorem decay_at (a : FVec Ideal S16x512 .bf16) (b : Fin 4) (n : Fin 16) (d : Fin 512) :
    decay a (ix3 b n d) = a (ix2 n d) := by
  pointwise [decay]

theorem upd_at (B : FVec Ideal S4x16 .bf16) (x : FVec Ideal S4x1x512 .bf16) (b : Fin 4) (n : Fin 16) (d : Fin 512) :
    upd B x (ix3 b n d) = x (ix3 b 0 d) * B (ix2 b n) := by
  pointwise [upd]

theorem yOf_at (C : FVec Ideal S4x16 .bf16) (h : FVec Ideal S4x16x512 .f32) (b : Fin 4) (d : Fin 512) :
    yOf C h (ix3 b 0 d) = ∑ n : Fin 16, h (ix3 b n d) * C (ix2 b n) := by
  pointwise [yOf]

theorem steps_at (a : FVec Ideal S16x512 .bf16) (X : FVec Ideal S4x32x512 .bf16) (B : FVec Ideal S4x32x16 .bf16)
    (h : FVec Ideal S4x16x512 .f32) (b : Fin 4) (n : Fin 16) (d : Fin 512) : ∀ k : ℕ,
    steps a X B h k (ix3 b n d)
      = run (a (ix2 n d)) (fun s => X (ix3 b (Fin.ofNat 32 s) d) * B (ix3 b (Fin.ofNat 32 s) n)) (h (ix3 b n d)) k
  | 0 => rfl
  | k + 1 => by
    show steps a X B h k (ix3 b n d) * decay a (ix3 b n d) + upd (bcol B (Fin.ofNat 32 k)) (xrow X (Fin.ofNat 32 k)) (ix3 b n d) = _
    rw [steps_at a X B h b n d k, decay_at, upd_at, bcol_at, xrow_at]
    rfl

theorem warm_at (a : FVec Ideal S16x512 .bf16) (X : FVec Ideal S4x32x512 .bf16) (B : FVec Ideal S4x32x16 .bf16)
    (b : Fin 4) (n : Fin 16) (d : Fin 512) : warm a X B (ix3 b n d)
      = run (a (ix2 n d)) (fun s => X (ix3 b (Fin.ofNat 32 s) d) * B (ix3 b (Fin.ofNat 32 s) n)) 0 32 := by
  have e2 : k0_pay2 X = X := shapeCast_self _ _
  have e3 : k0_pay3 B = B := shapeCast_self _ _
  have e0 : zeroState (F := Ideal) (ix3 b n d) = 0 := by pointwise [zeroState]
  unfold warm
  rw [shapeCast_self, e2, e3, steps_at, e0]

theorem exp_at (a : FVec Ideal S512x16 .bf16) (n : Fin 16) (d : Fin 512) : k0_pay29 (F := Ideal) a (ix2 n d) = Ideal.exp (a (ix2 d n)) := by
  pointwise [k0_pay29]

theorem pay1_at (Y : FVec Ideal S4x32x512 .f32) (b : Fin 4) (s : Fin 32) (d : Fin 512) :
    (k0_pay1 (F := Ideal) Y (ix5 0 b 0 s d) : EReal) = Y (ix3 b s d) := by
  pointwise [k0_pay1]

/-! ## The blocks at an index -/

variable (m : (ℓ : Loc nD τ sig) → Buf (Elt Ideal) ℓ) (c : Dev nD)

/-- A device's part of `x`, its copy of `A`, its parts of `B` and `C`. -/
def argX : S8x512x512.Idx → EReal := m ((c : Thread nD τ).loc main_arg0)
def argA : S512x16.Idx → EReal := m ((c : Thread nD τ).loc main_arg1)
def argB : S8x512x16.Idx → EReal := m ((c : Thread nD τ).loc main_arg2)
def argC : S8x512x16.Idx → EReal := m ((c : Thread nD τ).loc main_arg3)

/-- Batch `b` of the device's half of the batches. -/
def bat (b : Fin 4) : Fin 8 := ⟨4 * (c.val % 2) + b.val, by omega⟩

/-- Row `s` of chunk `t`. -/
def loc (t : Fin grid0.N) (s : Fin 32) : Fin 512 := ⟨32 * t.val + s.val, by have := t.isLt; have := N_0; omega⟩

theorem idx_at : ∀ t : Fin cfg0.N, win0_0.index t = ![0, t.val, 0] ∧ win0_1.index t = ![0, 0] ∧ win0_2.index t = ![0, t.val, 0]
    ∧ win0_3.index t = ![0, t.val, 0] ∧ win0_4.index t = ![0, 15, 0] ∧ win0_5.index t = ![0, 15, 0] :=
  (by decide +kernel : ∀ t : Fin grid0.N, _)

theorem blkX_at (t : Fin grid0.N) (b : Fin 8) (s : Fin 32) (d : Fin 512) :
    blkX m c t (ix3 b s d) = argX m c (ix3 b (loc t s) d) := by
  unfold blkX argX
  blk_simp [iblk]
  refine congrArg (m ((c : Thread nD τ).loc main_arg0)) ?_
  blk_ext [idx_at t, loc]

theorem blkA_at (t : Fin grid0.N) (d : Fin 512) (n : Fin 16) : blkA m c t (ix2 d n) = argA m c (ix2 d n) := by
  unfold blkA argA
  blk_simp [iblk]
  refine congrArg (m ((c : Thread nD τ).loc main_arg1)) ?_
  blk_ext [idx_at t]

theorem blkB_at (t : Fin grid0.N) (b : Fin 8) (s : Fin 32) (n : Fin 16) :
    blkB m c t (ix3 b s n) = argB m c (ix3 b (loc t s) n) := by
  unfold blkB argB
  blk_simp [iblk]
  refine congrArg (m ((c : Thread nD τ).loc main_arg2)) ?_
  blk_ext [idx_at t, loc]

theorem blkC_at (t : Fin grid0.N) (b : Fin 8) (s : Fin 32) (n : Fin 16) :
    blkC m c t (ix3 b s n) = argC m c (ix3 b (loc t s) n) := by
  unfold blkC argC
  blk_simp [iblk]
  refine congrArg (m ((c : Thread nD τ).loc main_arg3)) ?_
  blk_ext [idx_at t, loc]

theorem tailX_at (t : Fin grid0.N) (b : Fin 8) (s : Fin 32) (d : Fin 512) :
    tailX m c t (ix3 b s d) = argX m c (ix3 b ⟨480 + s.val, by omega⟩ d) := by
  unfold tailX argX
  blk_simp [iblk]
  refine congrArg (m ((c : Thread nD τ).loc main_arg0)) ?_
  blk_ext [idx_at t]

theorem tailB_at (t : Fin grid0.N) (b : Fin 8) (s : Fin 32) (n : Fin 16) :
    tailB m c t (ix3 b s n) = argB m c (ix3 b ⟨480 + s.val, by omega⟩ n) := by
  unfold tailB argB
  blk_simp [iblk]
  refine congrArg (m ((c : Thread nD τ).loc main_arg2)) ?_
  blk_ext [idx_at t]

theorem off_at : ∀ c : Dev nD, k0_off1 c = ![4 * (c.val % 2), 0, 0] ∧ k0_off2 c = ![4 * (c.val % 2), 0, 0]
    ∧ k0_off3 c = ![4 * (c.val % 2), 0, 0] ∧ k0_off4 c = ![4 * (c.val % 2), 0, 0] := by decide +kernel

/-- The device's half of the batches, at an index. -/
theorem cutX_at (X : S8x32x512.Idx → EReal) (o : Fin 3 → ℕ) (ho : o = ![4 * (c.val % 2), 0, 0])
    (hb : ∀ a, o a + S4x32x512.size a ≤ S8x32x512.size a) (b : Fin 4) (s : Fin 32) (d : Fin 512) :
    cut X (Rect.unit (s := S8x32x512) o S4x32x512.size hb) (ix3 b s d) = X (ix3 (bat c b) s d) := by
  subst ho
  refine congrArg X ?_
  funext a
  fin_cases a <;> refine Fin.ext ?_ <;> simp [bat, Rect.unit, Rect.emb]

theorem cutB_at (X : S8x32x16.Idx → EReal) (o : Fin 3 → ℕ) (ho : o = ![4 * (c.val % 2), 0, 0])
    (hb : ∀ a, o a + S4x32x16.size a ≤ S8x32x16.size a) (b : Fin 4) (s : Fin 32) (n : Fin 16) :
    cut X (Rect.unit (s := S8x32x16) o S4x32x16.size hb) (ix3 b s n) = X (ix3 (bat c b) s n) := by
  subst ho
  refine congrArg X ?_
  funext a
  fin_cases a <;> refine Fin.ext ?_ <;> simp [bat, Rect.unit, Rect.emb]

theorem xh_at (t : Fin grid0.N) (b : Fin 4) (s : Fin 32) (d : Fin 512) :
    xh m c t (ix3 b s d) = argX m c (ix3 (bat c b) (loc t s) d) := by
  unfold xh
  rw [show ∀ v, k0_pay31 (F := Ideal) v = v from fun v => shapeCast_self v _]
  exact (cutX_at c (blkX m c t) _ (off_at c).2.2.1 (k0_off3_inb c) b s d).trans (blkX_at m c t _ s d)

theorem bh_at (t : Fin grid0.N) (b : Fin 4) (s : Fin 32) (n : Fin 16) :
    bh m c t (ix3 b s n) = argB m c (ix3 (bat c b) (loc t s) n) := by
  unfold bh
  rw [show ∀ v, k0_pay32 (F := Ideal) v = v from fun v => shapeCast_self v _]
  exact (cutB_at c (blkB m c t) _ (off_at c).2.2.2 (k0_off4_inb c) b s n).trans (blkB_at m c t _ s n)

theorem ch_at (t : Fin grid0.N) (b : Fin 4) (s : Fin 32) (n : Fin 16) :
    ch m c t (ix3 b s n) = argC m c (ix3 (bat c b) (loc t s) n) := by
  unfold ch
  rw [show ∀ v, k0_pay33 (F := Ideal) v = v from fun v => shapeCast_self v _]
  exact (cutB_at c (blkC m c t) _ (off_at c).2.2.2 (k0_off4_inb c) b s n).trans (blkC_at m c t _ s n)

theorem dec_at (n : Fin 16) (d : Fin 512) : dec m c (ix2 n d) = Ideal.exp (argA m c (ix2 d n)) := by
  unfold dec
  rw [exp_at, blkA_at]

/-! ## The device's steps at an index -/

/-- The device's input to step `k` of its half of the time axis. -/
def inp (b : Fin 4) (n : Fin 16) (d : Fin 512) (k : ℕ) : EReal :=
  argX m c (ix3 (bat c b) (Fin.ofNat 512 k) d) * argB m c (ix3 (bat c b) (Fin.ofNat 512 k) n)

theorem tl_at (b : Fin 4) (n : Fin 16) (d : Fin 512) : tl m c (ix3 b n d)
    = run (Ideal.exp (argA m c (ix2 d n))) (fun k => inp m c b n d (480 + k)) 0 32 := by
  unfold tl
  rw [warm_at, dec_at]
  refine run_congr 32 fun k hk => ?_
  rw [cutX_at c _ _ (off_at c).1, cutB_at c _ _ (off_at c).2.1, tailX_at, tailB_at]
  have e : (⟨480 + (Fin.ofNat 32 k).val, by omega⟩ : Fin 512) = Fin.ofNat 512 (480 + k) := by
    refine Fin.ext ?_
    simp only [Fin.val_ofNat]
    omega
  rw [e]
  rfl

theorem loc_ofNat (t : Fin grid0.N) (k : ℕ) (hk : k < 32) : loc t (Fin.ofNat 32 k) = Fin.ofNat 512 (32 * t.val + k) := by
  have := t.isLt
  have := N_0
  refine Fin.ext ?_
  simp only [loc, Fin.val_ofNat]
  omega

theorem steps_chunk (t : Fin grid0.N) (h : FVec Ideal S4x16x512 .f32) (b : Fin 4) (n : Fin 16) (d : Fin 512) (k : ℕ) (hk : k ≤ 32) :
    steps (dec m c) (xh m c t) (bh m c t) h k (ix3 b n d)
      = run (Ideal.exp (argA m c (ix2 d n))) (fun k => inp m c b n d (32 * t.val + k)) (h (ix3 b n d)) k := by
  rw [steps_at, dec_at]
  refine run_congr k fun i hi => ?_
  rw [xh_at, bh_at, loc_ofNat t i (by omega)]
  rfl

/-- The state that the device starts from, at an index. -/
def entry (b : Fin 4) (n : Fin 16) (d : Fin 512) : EReal := carry m c 0 (ix3 b n d)

theorem carry_at (b : Fin 4) (n : Fin 16) (d : Fin 512) : ∀ t : ℕ, t ≤ 16 → carry m c t (ix3 b n d)
    = run (Ideal.exp (argA m c (ix2 d n))) (inp m c b n d) (entry m c b n d) (32 * t)
  | 0, _ => rfl
  | t + 1, ht => by
    have e : (pt t).val = t := Nat.mod_eq_of_lt (by omega)
    show steps (dec m c) (xh m c (pt t)) (bh m c (pt t)) (carry m c t) 32 (ix3 b n d) = _
    rw [steps_chunk m c (pt t) _ b n d 32 (le_refl _), carry_at b n d t (by omega), e, run_add, Nat.mul_succ]

theorem outIdx_ix (h : Fin 2) (b : Fin 4) (t : Fin 16) (s : Fin 32) (d : Fin 512) : outIdx (ix5 h b t s d) = ix5 0 b 0 s d := by
  funext a
  fin_cases a <;> rfl

/-- One element of the device's half of the result. -/
theorem outFull_at (h : Fin 2) (b : Fin 4) (t : Fin 16) (s : Fin 32) (d : Fin 512) :
    (outFull m c (ix5 h b t s d) : EReal)
      = ∑ n : Fin 16, run (Ideal.exp (argA m c (ix2 d n))) (inp m c b n d) (entry m c b n d) (32 * t.val + (s.val + 1))
          * argC m c (ix3 (bat c b) (Fin.ofNat 512 (32 * t.val + s.val)) n) := by
  have e : (pt t.val).val = t.val := Nat.mod_eq_of_lt t.isLt
  have es : s = Fin.ofNat 32 s.val := Fin.ext (by simp only [Fin.val_ofNat]; omega)
  unfold outFull
  rw [outIdx_ix]
  refine (pay1_at _ b s d).trans ?_
  show yOf (bcol (ch m c (pt t.val)) s) (steps (dec m c) (xh m c (pt t.val)) (bh m c (pt t.val)) (carry m c (pt t.val).val) (s.val + 1))
    (ix3 b 0 d) = _
  rw [yOf_at]
  refine Finset.sum_congr rfl fun n _ => ?_
  rw [steps_chunk m c _ _ b n d _ (by omega), e, carry_at m c b n d _ (by omega), run_add, bcol_at, ch_at]
  rw [es, loc_ofNat _ _ (by omega), e, ← es]

end Cert.KernelIdeal.Scan

end
-- ==== Proof.RefValue.lean ====
/- What the reference computes, over the extended reals, element by element. -/
module

public import proofs.«01_k».proof.Proof.Gen.ReferenceIdeal.Run
public import proofs.«01_k».proof.Proof.Recur
public import Idealize.ShloMosaic.Lib.Pipeline.ValueKit
public import Idealize.ShloMosaic.Lib.WordCmp

@[expose] public section

noncomputable section

namespace Cert.ReferenceIdeal.Trips

open Cert.ReferenceIdeal Cert.ReferenceIdeal.Gen Cert.ReferenceIdeal.Value
open Idealize.ShloMosaic Idealize.ShloMosaic.TcCoe
open Idealize.ShloMosaic.StableHlo
open Cert.Recur
open Idealize.ShloMosaic.WordCmp

/-- The contents of every buffer of one device. -/
local notation "Vals" => Valuation τ sig (Elt Ideal)

/-! ## The carried buffers by name -/

def zeroV (V : Vals) : S8x512x16.Idx → EReal := V (Proc.devRef .tc main_v8_0)
def xV (V : Vals) : S8x1024x512.Idx → EReal := V (Proc.devRef .tc main_v8_1)
def bV (V : Vals) : S8x1024x16.Idx → EReal := V (Proc.devRef .tc main_v8_2)
def aV (V : Vals) : S1x512x16.Idx → EReal := V (Proc.devRef .tc main_v8_3)
def cV (V : Vals) : S8x1024x16.Idx → EReal := V (Proc.devRef .tc main_v8_4)
def tV (V : Vals) : S_.Idx → BitVec 32 := V (Proc.devRef .tc main_v8_6)
def hV (V : Vals) : S8x512x16.Idx → EReal := V (Proc.devRef .tc main_v8_7)
def gV (V : Vals) : S8x512x16.Idx → EReal := V (Proc.devRef .tc main_v8_8)
def yV (V : Vals) : S8x1024x512.Idx → EReal := V (Proc.devRef .tc main_v8_9)

/-! ## One trip at an index -/

/-- The starts `(0, t, 0)` as words. -/
abbrev starts (T : S_.Idx → BitVec 32) : Fin 3 → Int := fun k =>
  ((![constantI S_ 32 0#32, T, constantI S_ 32 0#32] : Fin 3 → (⟨S_, .i32⟩ : BufTy).Contents (Elt Ideal)) k (Shape.Idx.first h_S_)).toInt

theorem starts_eq (T : S_.Idx → BitVec 32) (t : Fin 1024) (hT : T = fun _ => BitVec.ofNat 32 t.val) (a : Fin 3) :
    starts T a = ((![0, t.val, 0] : Fin 3 → ℕ) a : Int) := by
  subst hT
  have := t.isLt
  fin_cases a
  · rfl
  · exact toInt_ofNat_of_lt (w := 32) (a := t.val) (by omega)
  · rfl

theorem rowX (X : S8x1024x512.Idx → EReal) (T : S_.Idx → BitVec 32) (t : Fin 1024) (hT : T = fun _ => BitVec.ofNat 32 t.val)
    (b : Fin 8) (d : Fin 512) :
    Host.dynamicSlice S8x1x512 X (starts T) sliceFits_S8x1024x512_S8x1x512 (ix3 b 0 d) = X (ix3 b t d) := by
  rw [dynamicSlice_eq_extract S8x1x512 X (starts T) sliceFits_S8x1024x512_S8x1x512 ![0, t.val, 0]
    ⟨rfl, fun a => by have := t.isLt; fin_cases a <;> simp [Shape.size] <;> omega⟩ (starts_eq T t hT)]
  pointwise

theorem rowB (X : S8x1024x16.Idx → EReal) (T : S_.Idx → BitVec 32) (t : Fin 1024) (hT : T = fun _ => BitVec.ofNat 32 t.val)
    (b : Fin 8) (n : Fin 16) :
    Host.dynamicSlice S8x1x16 X (starts T) sliceFits_S8x1024x16_S8x1x16 (ix3 b 0 n) = X (ix3 b t n) := by
  rw [dynamicSlice_eq_extract S8x1x16 X (starts T) sliceFits_S8x1024x16_S8x1x16 ![0, t.val, 0]
    ⟨rfl, fun a => by have := t.isLt; fin_cases a <;> simp [Shape.size] <;> omega⟩ (starts_eq T t hT)]
  pointwise

theorem setY (Y : S8x1024x512.Idx → EReal) (U : S8x1x512.Idx → EReal) (T : S_.Idx → BitVec 32) (t : Fin 1024)
    (hT : T = fun _ => BitVec.ofNat 32 t.val) (b : Fin 8) (s : Fin 1024) (d : Fin 512) :
    Host.dynamicUpdateSlice Y U (starts T) updateFits_S8x1024x512_S8x1x512 (ix3 b s d)
      = if s = t then U (ix3 b 0 d) else Y (ix3 b s d) := by
  rw [dynamicUpdateSlice_eq_update Y U (starts T) updateFits_S8x1024x512_S8x1x512 ![0, t.val, 0]
    ⟨rfl, fun a => by have := t.isLt; fin_cases a <;> simp [Shape.size] <;> omega⟩ (starts_eq T t hT)]
  pointwise
  by_cases e : s = t
  · subst e
    rw [dif_pos ⟨le_refl _, Nat.lt_succ_self _⟩, if_pos rfl]
    exact congrArg (fun z => U (ix3 b z d)) (Fin.ext (Nat.sub_self _))
  · have : s.val ≠ t.val := fun h => e (Fin.ext h)
    rw [dif_neg (by omega), if_neg e]

theorem v22_at (V : Vals) (t : Fin 1024) (hT : tV V = fun _ => BitVec.ofNat 32 t.val) (b : Fin 8) (d : Fin 512) (n : Fin 16) :
    (res_main_while0b_v22 V (ix3 b d n) : EReal) = xV V (ix3 b t d) * bV V (ix3 b t n) := by
  rw [← rowX (xV V) (tV V) t hT, ← rowB (bV V) (tV V) t hT]
  pointwise [res_main_while0b_v22]
  rfl

theorem sel_at (T : S_.Idx → BitVec 32) (t : Fin 1024) (hT : T = fun _ => BitVec.ofNat 32 t.val) (k : ℕ) (hk : k < 1024)
    (i : S_.Idx) (x y : EReal) :
    Scalar.select (IntOp.cmpi .eq (T i) (BitVec.ofNat 32 k)) x y = if t.val = k then x else y := by
  subst hT
  have := t.isLt
  exact if_congr (cmpi_eq_ofNat_eq_one_iff (w := 32) (a := t.val) (b := k) (by omega) (by omega)) rfl rfl

theorem v25_at (V : Vals) (t : Fin 1024) (hT : tV V = fun _ => BitVec.ofNat 32 t.val) (b : Fin 8) (d : Fin 512) (n : Fin 16) :
    (res_main_while0b_v25 V (ix3 b d n) : EReal)
      = (if t.val = 512 then gV V (ix3 b d n) else hV V (ix3 b d n)) * aV V (ix3 0 d n) + xV V (ix3 b t d) * bV V (ix3 b t n) := by
  rw [← v22_at V t hT, ← sel_at (tV V) t hT 512 (by omega) ix0]
  pointwise [res_main_while0b_v25]
  rfl

theorem stepG_at (V : Vals) (t : Fin 1024) (hT : tV V = fun _ => BitVec.ofNat 32 t.val) (b : Fin 8) (d : Fin 512) (n : Fin 16) :
    (step_main_v8_8 V (ix3 b d n) : EReal)
      = (if t.val = 480 then zeroV V (ix3 b d n) else gV V (ix3 b d n)) * aV V (ix3 0 d n) + xV V (ix3 b t d) * bV V (ix3 b t n) := by
  rw [← v22_at V t hT, ← sel_at (tV V) t hT 480 (by omega) ix0]
  pointwise [step_main_v8_8, id]
  rfl

/-- The state after the trip. -/
def nextV (V : Vals) : S8x512x16.Idx → EReal := res_main_while0b_v25 V

/-- The outputs of the trip, at an index. -/
theorem rowY_at (V : Vals) (t : Fin 1024) (hT : tV V = fun _ => BitVec.ofNat 32 t.val) (b : Fin 8) (d : Fin 512) :
    (broadcastInDim S8x1x512 ![0, 2] bcast_S8x512_S8x1x512_0_2 (Host.reduceAdd (F := Ideal) (φ := .f32) (mulf (F := Ideal) (φ := .f32) (nextV V)
        (broadcastInDim S8x512x16 ![0, 1, 2] bcast_S8x1x16_S8x512x16_0_1_2
          (Host.dynamicSlice S8x1x16 (cV V) (starts (tV V)) sliceFits_S8x1024x16_S8x1x16)))
        (constant S_ .f32 0x00000000#32) reducesTo_S8x512x16_S8x512_d2 h_S_) (ix3 b 0 d) : EReal)
      = ∑ n : Fin 16, nextV V (ix3 b d n) * cV V (ix3 b t n) := by
  simp only [← rowB (cV V) (tV V) t hT]
  generalize Host.dynamicSlice S8x1x16 (cV V) (starts (tV V)) sliceFits_S8x1024x16_S8x1x16 = R
  generalize nextV V = Q
  pointwise

theorem stepY_at (V : Vals) (t : Fin 1024) (hT : tV V = fun _ => BitVec.ofNat 32 t.val) (b : Fin 8) (s : Fin 1024) (d : Fin 512) :
    (step_main_v8_9 V (ix3 b s d) : EReal)
      = if s = t then ∑ n : Fin 16, nextV V (ix3 b d n) * cV V (ix3 b t n) else yV V (ix3 b s d) := by
  rw [← rowY_at V t hT, ← setY _ _ (tV V) t hT]
  rfl

/-! ## All trips at an index -/

variable (m : (ℓ : Loc nD τ sig) → Buf (Elt Ideal) ℓ) (c : Dev nD)

/-- The arguments. -/
def argX : S8x1024x512.Idx → EReal := m ((c : Thread nD τ).loc main_arg0)
def argA : S512x16.Idx → EReal := m ((c : Thread nD τ).loc main_arg1)
def argB : S8x1024x16.Idx → EReal := m ((c : Thread nD τ).loc main_arg2)
def argC : S8x1024x16.Idx → EReal := m ((c : Thread nD τ).loc main_arg3)

/-- The decay of a channel. -/
def dk (d : Fin 512) (n : Fin 16) : EReal := Ideal.exp (argA m c (ix2 d n))

/-- The input to step `k` of a channel. -/
def inp (b : Fin 8) (d : Fin 512) (n : Fin 16) (k : ℕ) : EReal :=
  argX m c (ix3 b (Fin.ofNat 1024 k) d) * argB m c (ix3 b (Fin.ofNat 1024 k) n)

/-- The output of step `s`. -/
def outAt (b : Fin 8) (s : Fin 1024) (d : Fin 512) : EReal :=
  ∑ n : Fin 16, hAt (dk m c d n) (inp m c b d n) (s.val + 1) * argC m c (ix3 b s n)

/-- The carried buffers after `k` trips. -/
structure After (k : ℕ) (V : Vals) : Prop where
  zero : ∀ i, zeroV V i = 0
  vx : xV V = argX m c
  vb : bV V = argB m c
  va : ∀ d n, aV V (ix3 0 d n) = dk m c d n
  vc : cV V = argC m c
  vt : tV V = fun _ => BitVec.ofNat 32 k
  vh : ∀ b d n, hV V (ix3 b d n) = hAt (dk m c d n) (inp m c b d n) k
  vg : ∀ b d n, gV V (ix3 b d n) = gAt (dk m c d n) (inp m c b d n) k
  vy : ∀ b s d, yV V (ix3 b s d) = if s.val < k then outAt m c b s d else 0

theorem zeros_at (i : S8x512x16.Idx) :
    (broadcastInDim S8x512x16 ![] bcast_S_S8x512x16 (constant (F := Ideal) S_ .f32 0x00000000#32) i : EReal) = 0 := by
  pointwise

theorem after_zero : After m c 0 (entryContents preI m c) := by
  refine ⟨?_, ?_, ?_, ?_, ?_, ?_, ?_, ?_, ?_⟩ <;>
    simp only [zeroV, xV, bV, aV, cV, tV, hV, gV, yV, entryContents, afterL_cons, afterL_nil] <;> after_reads_simp
  · exact zeros_at
  · rfl
  · rfl
  · intro d n
    pointwise [id]
    rfl
  · rfl
  · rfl
  · exact fun b d n => zeros_at _
  · exact fun b d n => zeros_at _
  · intro b s d
    rw [if_neg (Nat.not_lt_zero _)]
    pointwise [id]

theorem after_succ (k : Fin 1024) (V : Vals) (H : After m c k.val V) : After m c (k.val + 1) (STEP V) := by
  have ek : Fin.ofNat 1024 k.val = k := Fin.ofNat_val_eq_self k
  have e25 : ∀ b d n, nextV V (ix3 b d n) = hAt (dk m c d n) (inp m c b d n) (k.val + 1) := by
    intro b d n
    refine (v25_at V k H.vt b d n).trans ?_
    rw [H.vh, H.vg, H.va, H.vx, H.vb]
    show _ = (if k.val = 512 then _ else _) * _ + inp m c b d n k.val
    unfold inp
    rw [ek]
  refine ⟨?_, ?_, ?_, ?_, ?_, ?_, ?_, ?_, ?_⟩
  · intro i
    rw [← H.zero i]
    exact congrFun (STEP_main_v8_0 V) i
  · exact (STEP_main_v8_1 V).trans H.vx
  · exact (STEP_main_v8_2 V).trans H.vb
  · intro d n
    rw [← H.va d n]
    exact congrFun (STEP_main_v8_3 V) _
  · exact (STEP_main_v8_4 V).trans H.vc
  · refine (STEP_main_v8_6 V).trans ?_
    funext i
    show tV V i + 1#32 = _
    rw [H.vt]
    exact (BitVec.ofNat_add k.val 1).symm
  · intro b d n
    rw [← e25]
    exact congrFun (STEP_main_v8_7 V) _
  · intro b d n
    refine (congrFun (STEP_main_v8_8 V) _).trans ?_
    rw [stepG_at V k H.vt, H.zero, H.vg, H.va, H.vx, H.vb]
    show _ = (if k.val = 480 then _ else _) * _ + inp m c b d n k.val
    unfold inp
    rw [ek]
  · intro b s d
    have e9 : yV (STEP V) (ix3 b s d) = (step_main_v8_9 V (ix3 b s d) : EReal) := congrFun (STEP_main_v8_9 V) _
    rw [e9, stepY_at V k H.vt, H.vy, H.vc]
    by_cases e : s = k
    · subst e
      rw [if_pos rfl, if_pos (Nat.lt_succ_self _)]
      exact Finset.sum_congr rfl fun n _ => by rw [e25]
    · have : s.val ≠ k.val := fun h => e (Fin.ext h)
      rw [if_neg e]
      exact if_congr (by omega) rfl rfl

theorem after_all : ∀ k, k ≤ 1024 → After m c k (STEP^[k] (entryContents preI m c))
  | 0, _ => after_zero m c
  | k + 1, hk => by
    rw [Function.iterate_succ_apply']
    exact after_succ m c ⟨k, by omega⟩ _ (after_all k (by omega))

/-- The reference's result. -/
def result : S4x4x32x32x512.Idx → EReal := out_main_v11 (STEP^[1024] (entryContents preI m c))

theorem result_at (r : Fin 4) (b : Fin 4) (t s : Fin 32) (d : Fin 512) : result m c (ix5 r b t s d)
    = outAt m c ⟨4 * (r.val % 2) + b.val, by omega⟩ ⟨32 * t.val + s.val, by omega⟩ d := by
  have H := (after_all m c 1024 (le_refl _)).vy ⟨4 * (r.val % 2) + b.val, by omega⟩ ⟨32 * t.val + s.val, by omega⟩ d
  rw [if_pos (by show 32 * t.val + s.val < 1024; omega)] at H
  rw [← H]
  unfold result yV
  generalize STEP^[1024] (entryContents preI m c) = V
  pointwise [out_main_v11]
  have hr := r.isLt
  have e1 : (⟨t.val * 32 + s.val, by omega⟩ : Fin 1024) = ⟨32 * t.val + s.val, by omega⟩ := Fin.ext (by show t.val * 32 + s.val = 32 * t.val + s.val; omega)
  split
  · have e0 : (⟨r.val * 4 + b.val, by omega⟩ : Fin 8) = ⟨4 * (r.val % 2) + b.val, by omega⟩ :=
      Fin.ext (by show r.val * 4 + b.val = 4 * (r.val % 2) + b.val; omega)
    rw [e0, e1]
  · have e0 : (⟨(r.val - 2) * 4 + b.val, by omega⟩ : Fin 8) = ⟨4 * (r.val % 2) + b.val, by omega⟩ :=
      Fin.ext (by show (r.val - 2) * 4 + b.val = 4 * (r.val % 2) + b.val; omega)
    rw [e0, e1]

end Cert.ReferenceIdeal.Trips

end
-- ==== Proof.Link.lean ====
/- The kernel's result against the reference's, element by element. -/
module

public import proofs.«01_k».proof.Proof.KernelIdealValue
public import proofs.«01_k».proof.Proof.RefValue
public import proofs.«01_k».proof.Proof.Gen.On_written
public import Idealize.ShloMosaic.Lib.LayoutAt

@[expose] public section

noncomputable section

namespace Cert.Link

open Idealize.ShloMosaic Idealize.ShloMosaic.TcCoe
open Cert.Recur
open Cert.KernelIdeal.Scan (bat entry outFull outFull_at carry xp First zeroState tl tl_at)

/-- The kernel's devices. -/
local notation "KDev" => Dev Cert.KernelIdeal.nD

/-- Step `k` of the device's half of the time axis, in the whole axis. -/
def tim (c : KDev) (k : ℕ) (hk : k < 512) : Fin 1024 :=
  ⟨512 * (c.val / 2) + k, by have : c.val < 4 := c.isLt; omega⟩

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The devices' arguments are the parts of the reference's arguments. -/
structure Agrees : Prop where
  x : ∀ (c : KDev) b (k : Fin 512) d, KernelIdeal.Scan.argX m c (ix3 b k d) = ReferenceIdeal.Trips.argX m' 0 (ix3 b (tim c k.val k.isLt) d)
  a : ∀ (c : KDev) d n, KernelIdeal.Scan.argA m c (ix2 d n) = ReferenceIdeal.Trips.argA m' 0 (ix2 d n)
  b : ∀ (c : KDev) b (k : Fin 512) n, KernelIdeal.Scan.argB m c (ix3 b k n) = ReferenceIdeal.Trips.argB m' 0 (ix3 b (tim c k.val k.isLt) n)
  c : ∀ (c : KDev) b (k : Fin 512) n, KernelIdeal.Scan.argC m c (ix3 b k n) = ReferenceIdeal.Trips.argC m' 0 (ix3 b (tim c k.val k.isLt) n)

variable {m m'}

theorem tim_ofNat (c : KDev) (k : ℕ) (hk : k < 512) : tim c (Fin.ofNat 512 k).val (Fin.ofNat 512 k).isLt = Fin.ofNat 1024 (512 * (c.val / 2) + k) := by
  have : c.val < 4 := c.isLt
  refine Fin.ext ?_
  simp only [tim, Fin.val_ofNat]
  omega

theorem inp_eq (H : Agrees m m') (c : KDev) (b : Fin 4) (n : Fin 16) (d : Fin 512) (k : ℕ) (hk : k < 512) :
    KernelIdeal.Scan.inp m c b n d k = ReferenceIdeal.Trips.inp m' 0 (bat c b) d n (512 * (c.val / 2) + k) := by
  unfold KernelIdeal.Scan.inp ReferenceIdeal.Trips.inp
  rw [H.x, H.b, tim_ofNat c k hk]

theorem first_lt : ∀ c : KDev, (First c → c.val / 2 = 0) ∧ (¬ First c → c.val / 2 = 1 ∧ (xp c).val / 2 = 0) := by decide +kernel

theorem bat_xp : ∀ c : KDev, bat (xp c) = bat c := by decide +kernel

/-- The state after `k + 1` steps of the device is the reference's after as many steps of the device's half. -/
theorem run_eq (H : Agrees m m') (c : KDev) (b : Fin 4) (n : Fin 16) (d : Fin 512) (k : ℕ) (hk : k < 512) :
    run (Ideal.exp (KernelIdeal.Scan.argA m c (ix2 d n))) (KernelIdeal.Scan.inp m c b n d) (entry m c b n d) (k + 1)
      = hAt (ReferenceIdeal.Trips.dk m' 0 d n) (ReferenceIdeal.Trips.inp m' 0 (bat c b) d n) (512 * (c.val / 2) + (k + 1)) := by
  rw [H.a, run_congr (v := fun k => ReferenceIdeal.Trips.inp m' 0 (bat c b) d n (512 * (c.val / 2) + k)) _
    fun i hi => inp_eq H c b n d i (by omega)]
  by_cases hf : First c
  · have e0 : entry m c b n d = 0 := by
      show (if First c then zeroState else tl m (xp c)) (ix3 b n d) = _
      rw [if_pos hf]
      pointwise [zeroState]
    rw [e0, (first_lt c).1 hf]
    simp only [Nat.mul_zero, Nat.zero_add]
    exact (hAt_first _ _ _ (by omega)).symm
  · have e0 : entry m c b n d = run (ReferenceIdeal.Trips.dk m' 0 d n) (fun k => ReferenceIdeal.Trips.inp m' 0 (bat c b) d n (480 + k)) 0 32 := by
      show (if First c then zeroState else tl m (xp c)) (ix3 b n d) = _
      rw [if_neg hf, tl_at, H.a]
      refine run_congr 32 fun i hi => ?_
      rw [inp_eq H (xp c) b n d _ (by omega), ((first_lt c).2 hf).2, bat_xp]
      simp only [Nat.mul_zero, Nat.zero_add]
    rw [e0, ((first_lt c).2 hf).1]
    exact (hAt_second _ _ k).symm

/-- One element of the device's half of its result is the reference's. -/
theorem out_eq (H : Agrees m m') (c : KDev) (h : Fin 2) (b : Fin 4) (t : Fin 16) (s : Fin 32) (d : Fin 512) :
    (outFull m c (ix5 h b t s d) : EReal)
      = ReferenceIdeal.Trips.outAt m' 0 (bat c b) (tim c (32 * t.val + s.val) (by omega)) d := by
  rw [outFull_at]
  unfold ReferenceIdeal.Trips.outAt
  refine Finset.sum_congr rfl fun n _ => ?_
  rw [H.c, tim_ofNat c _ (by omega)]
  have e : (Fin.ofNat 1024 (512 * (c.val / 2) + (32 * t.val + s.val))) = tim c (32 * t.val + s.val) (by omega) := by
    rw [← tim_ofNat c _ (by omega)]
    exact Fin.ext (by simp only [tim, Fin.val_ofNat]; omega)
  rw [e, ← Nat.add_assoc, run_eq H c b n d _ (by omega)]
  rfl

/-! ## The devices' blocks at an index -/

theorem mesh_val : ∀ c : KDev, Layout.meshLin [2, 2] c.val [] = 0 ∧ Layout.meshLin [2, 2] c.val [0] = c.val / 2
    ∧ Layout.meshLin [2, 2] c.val [1] = c.val % 2 := by decide +kernel

/-- A block cut along the time axis, read in the whole array. -/
theorem blockX_at (c : KDev) (v : ReferenceIdeal.S8x1024x512.Idx → EReal)
    (h : Layout.TilesN (⟨3, ![8, 512, 512]⟩ : Shape) ⟨3, ![8, 1024, 512]⟩ fun b => Layout.cutSize [2, 2] ((![[], [0], []] : Fin 3 → List ℕ) b))
    (b : Fin 8) (k : Fin 512) (d : Fin 512) :
    Layout.blockN ⟨3, ![8, 512, 512]⟩ ⟨3, ![8, 1024, 512]⟩ (Layout.meshBlock [2, 2] ![[], [0], []] c) v h (ix3 b k d)
      = v (ix3 b (tim c k.val k.isLt) d) := by
  obtain ⟨e0, e1, -⟩ := mesh_val c
  rw [Layout.blockN_apply]
  refine congrArg v ?_
  funext a
  fin_cases a
  · refine Fin.ext ?_
    show Layout.meshLin [2, 2] c.val [] * 8 + b.val = b.val
    omega
  · refine Fin.ext ?_
    show Layout.meshLin [2, 2] c.val [0] * 512 + k.val = 512 * (c.val / 2) + k.val
    omega
  · refine Fin.ext ?_
    show Layout.meshLin [2, 2] c.val [] * 512 + d.val = d.val
    omega

theorem blockB_at (c : KDev) (v : ReferenceIdeal.S8x1024x16.Idx → EReal)
    (h : Layout.TilesN (⟨3, ![8, 512, 16]⟩ : Shape) ⟨3, ![8, 1024, 16]⟩ fun b => Layout.cutSize [2, 2] ((![[], [0], []] : Fin 3 → List ℕ) b))
    (b : Fin 8) (k : Fin 512) (n : Fin 16) :
    Layout.blockN ⟨3, ![8, 512, 16]⟩ ⟨3, ![8, 1024, 16]⟩ (Layout.meshBlock [2, 2] ![[], [0], []] c) v h (ix3 b k n)
      = v (ix3 b (tim c k.val k.isLt) n) := by
  obtain ⟨e0, e1, -⟩ := mesh_val c
  rw [Layout.blockN_apply]
  refine congrArg v ?_
  funext a
  fin_cases a
  · refine Fin.ext ?_
    show Layout.meshLin [2, 2] c.val [] * 8 + b.val = b.val
    omega
  · refine Fin.ext ?_
    show Layout.meshLin [2, 2] c.val [0] * 512 + k.val = 512 * (c.val / 2) + k.val
    omega
  · refine Fin.ext ?_
    show Layout.meshLin [2, 2] c.val [] * 16 + n.val = n.val
    omega

/-- A device's block of the result, read in the whole result. -/
theorem blockY_at {α : Type} (c : KDev) (v : ReferenceIdeal.S4x4x32x32x512.Idx → α)
    (h : Layout.TilesN (⟨5, ![2, 4, 16, 32, 512]⟩ : Shape) ⟨5, ![4, 4, 32, 32, 512]⟩ fun b => Layout.cutSize [2, 2] ((![[1], [], [0], [], []] : Fin 5 → List ℕ) b))
    (r : Fin 2) (b : Fin 4) (t : Fin 16) (s : Fin 32) (d : Fin 512) :
    Layout.blockN ⟨5, ![2, 4, 16, 32, 512]⟩ ⟨5, ![4, 4, 32, 32, 512]⟩ (Layout.meshBlock [2, 2] ![[1], [], [0], [], []] c) v h (ix5 r b t s d)
      = v (ix5 ⟨2 * (c.val % 2) + r.val, by omega⟩ b ⟨16 * (c.val / 2) + t.val, by have : c.val < 4 := c.isLt; omega⟩ s d) := by
  obtain ⟨e0, e1, e2⟩ := mesh_val c
  rw [Layout.blockN_apply]
  refine congrArg v ?_
  funext a
  fin_cases a
  · refine Fin.ext ?_
    show Layout.meshLin [2, 2] c.val [1] * 2 + r.val = 2 * (c.val % 2) + r.val
    omega
  · refine Fin.ext ?_
    show Layout.meshLin [2, 2] c.val [] * 4 + b.val = b.val
    omega
  · refine Fin.ext ?_
    show Layout.meshLin [2, 2] c.val [0] * 16 + t.val = 16 * (c.val / 2) + t.val
    omega
  · refine Fin.ext ?_
    show Layout.meshLin [2, 2] c.val [] * 32 + s.val = s.val
    omega
  · refine Fin.ext ?_
    show Layout.meshLin [2, 2] c.val [] * 512 + d.val = d.val
    omega

/-- The mask holds at rows 0 and 3 alone. -/
theorem mask_at (x : FVec Ideal On_written.S8x1024x512 .bf16) (a : FVec Ideal On_written.S512x16 .bf16) (p q : FVec Ideal On_written.S8x1024x16 .bf16)
    [On_written.Facts] (r : Fin 4) (b : Fin 4) (t s : Fin 32) (d : Fin 512) (h : On_written.fn (F := Ideal) x a p q (ix5 r b t s d) = 1#1) :
    r.val = 0 ∨ r.val = 3 := by
  revert h
  pointwise [On_written.fn]
  revert r
  decide +kernel

/-- One element of the device's half of its result is the reference's result there. -/
theorem result_eq (H : Agrees m m') (c : KDev) (r : Fin 2) (hr : r.val = c.val % 2) (b : Fin 4) (t : Fin 16) (s : Fin 32) (d : Fin 512) :
    (outFull m c (ix5 r b t s d) : EReal) = ReferenceIdeal.Trips.result m' 0
      (ix5 ⟨2 * (c.val % 2) + r.val, by omega⟩ b ⟨16 * (c.val / 2) + t.val, by have : c.val < 4 := c.isLt; omega⟩ s d) := by
  rw [out_eq H, ReferenceIdeal.Trips.result_at]
  congr 1
  · exact Fin.ext (by show 4 * (c.val % 2) + b.val = 4 * ((2 * (c.val % 2) + r.val) % 2) + b.val; omega)
  · exact Fin.ext (by show 512 * (c.val / 2) + (32 * t.val + s.val) = 32 * (16 * (c.val / 2) + t.val) + s.val; omega)

end Cert.Link

end
-- ==== Proof.lean ====
/- The proof of the claims: the three frames, and the equality of the kernel's written half with the plain recurrence. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_written
public import proofs.«01_k».proof.Proof.KernelLaunch
public import proofs.«01_k».proof.Proof.KernelIdealLaunch
public import proofs.«01_k».proof.Proof.Link
public import Idealize.ShloMosaic.Adequacy
public import Idealize.ShloMosaic.Init

@[expose] public section

noncomputable section

namespace Cert.Proof

open Idealize.ShloMosaic Idealize.ShloMosaic.TcCoe Idealize.SL.Sem

/-- The kernel's frame: its run, read at the four arguments and the counters. -/
theorem frame_kernel : Cert.quiescent_Kernel := fun m g _ =>
  (θ_run Cert.Kernel.defs _ _).mono
    (fun _ h => ⟨fun c => ⟨(h.1 c).1 _ (.inl rfl), (h.1 c).1 _ (.inr (.inl rfl)), (h.1 c).1 _ (.inr (.inr (.inl rfl))),
      (h.1 c).1 _ (.inr (.inr (.inr rfl)))⟩, h.2⟩)
    (Cert.Kernel.Scan.run_main (F := Bits) m g)

/-- The same kernel's frame over the extended reals. -/
theorem frame_ideal : Cert.quiescent_KernelIdeal := fun m g _ =>
  (θ_run Cert.KernelIdeal.defs _ _).mono
    (fun _ h => ⟨fun c => ⟨(h.1 c).1 _ (.inl rfl), (h.1 c).1 _ (.inr (.inl rfl)), (h.1 c).1 _ (.inr (.inr (.inl rfl))),
      (h.1 c).1 _ (.inr (.inr (.inr rfl)))⟩, h.2⟩)
    (Cert.KernelIdeal.Scan.run_main (F := Ideal) m g)

/-- The reference's frame: its loop's run, read at the arguments; it has no counters. -/
theorem frame_reference : Cert.quiescent_ReferenceIdeal := fun m g _ =>
  (θ_run Cert.ReferenceIdeal.defs _ _).mono
    (fun r h => ⟨fun c => (h c).2, sem_eq_zero_of_no_sems rfl _⟩)
    (Cert.ReferenceIdeal.Value.run (F := Ideal) m g)

/-- On the rows that a device writes, its result is the recurrence's. -/
theorem algebraic : Cert.algebraic_KernelIdeal_ReferenceIdeal_on_written := by
  intro m g m' g' _ hargs
  have H : Cert.Link.Agrees m m' := by
    refine ⟨fun c b k d => ?_, fun c d n => ?_, fun c b k n => ?_, fun c b k n => ?_⟩
    · exact (congrFun (hargs c).1 _).trans (Cert.Link.blockX_at c _ _ b k d)
    · exact congrFun (hargs c).2.1 _
    · exact (congrFun (hargs c).2.2.1 _).trans (Cert.Link.blockB_at c _ _ b k n)
    · exact (congrFun (hargs c).2.2.2 _).trans (Cert.Link.blockB_at c _ _ b k n)
  refine ⟨Cert.ReferenceIdeal.Trips.result m' 0, ?_, ?_⟩
  · refine (θ_run Cert.KernelIdeal.defs _ _).mono (fun r h c => ⟨?_, ?_⟩) (Cert.KernelIdeal.Scan.run_main (F := Ideal) m g)
    · intro i hi
      obtain ⟨i0, i1, i2, i3, i4, rfl⟩ : ∃ (i0 : Fin 2) (i1 : Fin 4) (i2 : Fin 16) (i3 : Fin 32) (i4 : Fin 512), i = ix5 i0 i1 i2 i3 i4 :=
        ⟨i 0, i 1, i 2, i 3, i 4, eq_ix5 i⟩
      have hm := Cert.Link.mask_at _ _ _ _ _ _ _ _ _ ((Cert.Link.blockY_at c _ _ i0 i1 i2 i3 i4).symm.trans hi)
      have h0 : i0.val = c.val % 2 := by
        have hm' : 2 * (c.val % 2) + i0.val = 0 ∨ 2 * (c.val % 2) + i0.val = 3 := hm
        omega
      refine Eq.trans ?_ (Cert.Link.blockY_at c _ _ i0 i1 i2 i3 i4).symm
      exact ((h.1 c).2 _ h0 i2.isLt).trans (Cert.Link.result_eq H c i0 h0 i1 i2 i3 i4)
    · exact ⟨(h.1 c).1 _ (.inl rfl), (h.1 c).1 _ (.inr (.inl rfl)), (h.1 c).1 _ (.inr (.inr (.inl rfl))), (h.1 c).1 _ (.inr (.inr (.inr rfl)))⟩
  · exact (θ_run Cert.ReferenceIdeal.defs _ _).mono (fun r h => ⟨fun i _ => congrFun (h 0).1 i, (h 0).2⟩)
      (Cert.ReferenceIdeal.Value.run (F := Ideal) m' g')

theorem claim : Cert.Claim := ⟨Cert.Kernel.Gen.facts, Cert.KernelIdeal.Gen.facts, Cert.ReferenceIdeal.Gen.facts, Cert.On_written.Gen.facts,
  frame_kernel, frame_ideal, frame_reference, trivial, algebraic⟩

end Cert.Proof

end
